-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1, 1024]⟩ ⟨2, ![1, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1, 1024]⟩ ⟨2, ![1, 16384]⟩ 1 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 16384]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S1x1024 .f32) (main_arg2 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_x_finite_ReferenceIdeal.lean ====
abbrev S4096x16384 : Shape := ⟨2, ![4096, 16384]⟩
abbrev S1x16384 : Shape := ⟨2, ![1, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts]

def fn {F : FTy → Type} [FloatOps F] (main_arg0 : FVec F S4096x16384 .f32) (main_arg1 : FVec F S1x16384 .f32) (main_arg2 : FVec F S1x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  main_v3
-- ==== Kernel.lean ====
abbrev S4096x1024 : Shape := ⟨2, ![4096, 1024]⟩
abbrev S1x1024 : Shape := ⟨2, ![1, 1024]⟩
abbrev S2x1024x1024 : Shape := ⟨3, ![2, 1024, 1024]⟩
abbrev S16x2x4096 : Shape := ⟨3, ![16, 2, 4096]⟩
abbrev S2x15 : Shape := ⟨2, ![2, 15]⟩
abbrev S2 : Shape := ⟨1, ![2]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1024 : Shape := ⟨1, ![1024]⟩
abbrev S1024x1 : Shape := ⟨2, ![1024, 1]⟩
abbrev S1024x2 : Shape := ⟨2, ![1024, 2]⟩
abbrev S2x1024 : Shape := ⟨2, ![2, 1024]⟩
abbrev S1x2x1024 : Shape := ⟨3, ![1, 2, 1024]⟩
abbrev S1x1 : Shape := ⟨2, ![1, 1]⟩
abbrev S1x2x2048 : Shape := ⟨3, ![1, 2, 2048]⟩
abbrev S2x2048 : Shape := ⟨2, ![2, 2048]⟩
abbrev S16x2x2048 : Shape := ⟨3, ![16, 2, 2048]⟩
abbrev S2048x2 : Shape := ⟨2, ![2048, 2]⟩
abbrev S2048x1 : Shape := ⟨2, ![2048, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .bf16⟩
  | .local _ .vmem, ⟨0, _⟩ => ⟨S1x1024, .f32⟩
  | .local _ .vmem, ⟨1, _⟩ => ⟨S1x1024, .f32⟩
  | .local _ .vmem, ⟨2, _⟩ => ⟨S2x1024x1024, .f32⟩
  | .local _ .vmem, ⟨3, _⟩ => ⟨S4096x1024, .bf16⟩
  | .local _ .vmem, ⟨4, _⟩ => ⟨S2x1024x1024, .bf16⟩
  | .local _ .vmem, ⟨5, _⟩ => ⟨S16x2x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_110 : BitVec 32 := 1#32
  let v126 : BitVec 32 := Scalar.addi v2 c1_i32_110
  let c16_i32_111 : BitVec 32 := 16#32
  let v127 : BitVec 32 := Scalar.remsi v126 c16_i32_111
  let c1_i32_118 : BitVec 32 := 1#32
  let v128 : BitVec 32 := Scalar.muli v127 c1_i32_118
  let v129 : BitVec 32 := Scalar.addi c0_i32_119 v128
  v129.toNat
def k0_dev17 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_124 : BitVec 32 := 2#32
  let v138 : BitVec 32 := Scalar.addi v2 c2_i32_124
  let c16_i32_125 : BitVec 32 := 16#32
  let v139 : BitVec 32 := Scalar.remsi v138 c16_i32_125
  let c1_i32_132 : BitVec 32 := 1#32
  let v140 : BitVec 32 := Scalar.muli v139 c1_i32_132
  let v141 : BitVec 32 := Scalar.addi c0_i32_133 v140
  v141.toNat
def k0_dev18 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_138 : BitVec 32 := 3#32
  let v150 : BitVec 32 := Scalar.addi v2 c3_i32_138
  let c16_i32_139 : BitVec 32 := 16#32
  let v151 : BitVec 32 := Scalar.remsi v150 c16_i32_139
  let c1_i32_146 : BitVec 32 := 1#32
  let v152 : BitVec 32 := Scalar.muli v151 c1_i32_146
  let v153 : BitVec 32 := Scalar.addi c0_i32_147 v152
  v153.toNat
def k0_dev19 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_152 : BitVec 32 := 4#32
  let v162 : BitVec 32 := Scalar.addi v2 c4_i32_152
  let c16_i32_153 : BitVec 32 := 16#32
  let v163 : BitVec 32 := Scalar.remsi v162 c16_i32_153
  let c1_i32_160 : BitVec 32 := 1#32
  let v164 : BitVec 32 := Scalar.muli v163 c1_i32_160
  let v165 : BitVec 32 := Scalar.addi c0_i32_161 v164
  v165.toNat
def k0_dev20 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_166 : BitVec 32 := 5#32
  let v174 : BitVec 32 := Scalar.addi v2 c5_i32_166
  let c16_i32_167 : BitVec 32 := 16#32
  let v175 : BitVec 32 := Scalar.remsi v174 c16_i32_167
  let c1_i32_174 : BitVec 32 := 1#32
  let v176 : BitVec 32 := Scalar.muli v175 c1_i32_174
  let v177 : BitVec 32 := Scalar.addi c0_i32_175 v176
  v177.toNat
def k0_dev21 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_180 : BitVec 32 := 6#32
  let v186 : BitVec 32 := Scalar.addi v2 c6_i32_180
  let c16_i32_181 : BitVec 32 := 16#32
  let v187 : BitVec 32 := Scalar.remsi v186 c16_i32_181
  let c1_i32_188 : BitVec 32 := 1#32
  let v188 : BitVec 32 := Scalar.muli v187 c1_i32_188
  let v189 : BitVec 32 := Scalar.addi c0_i32_189 v188
  v189.toNat
def k0_dev22 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_194 : BitVec 32 := 7#32
  let v198 : BitVec 32 := Scalar.addi v2 c7_i32_194
  let c16_i32_195 : BitVec 32 := 16#32
  let v199 : BitVec 32 := Scalar.remsi v198 c16_i32_195
  let c1_i32_202 : BitVec 32 := 1#32
  let v200 : BitVec 32 := Scalar.muli v199 c1_i32_202
  let v201 : BitVec 32 := Scalar.addi c0_i32_203 v200
  v201.toNat
def k0_dev23 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_208 : BitVec 32 := 8#32
  let v210 : BitVec 32 := Scalar.addi v2 c8_i32_208
  let c16_i32_209 : BitVec 32 := 16#32
  let v211 : BitVec 32 := Scalar.remsi v210 c16_i32_209
  let c1_i32_216 : BitVec 32 := 1#32
  let v212 : BitVec 32 := Scalar.muli v211 c1_i32_216
  let v213 : BitVec 32 := Scalar.addi c0_i32_217 v212
  v213.toNat
def k0_dev24 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_222 : BitVec 32 := 9#32
  let v222 : BitVec 32 := Scalar.addi v2 c9_i32_222
  let c16_i32_223 : BitVec 32 := 16#32
  let v223 : BitVec 32 := Scalar.remsi v222 c16_i32_223
  let c1_i32_230 : BitVec 32 := 1#32
  let v224 : BitVec 32 := Scalar.muli v223 c1_i32_230
  let v225 : BitVec 32 := Scalar.addi c0_i32_231 v224
  v225.toNat
def k0_dev25 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_236 : BitVec 32 := 10#32
  let v234 : BitVec 32 := Scalar.addi v2 c10_i32_236
  let c16_i32_237 : BitVec 32 := 16#32
  let v235 : BitVec 32 := Scalar.remsi v234 c16_i32_237
  let c1_i32_244 : BitVec 32 := 1#32
  let v236 : BitVec 32 := Scalar.muli v235 c1_i32_244
  let v237 : BitVec 32 := Scalar.addi c0_i32_245 v236
  v237.toNat
def k0_dev26 (d0 : Dev nD) : Nat :=
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_250 : BitVec 32 := 11#32
  let v246 : BitVec 32 := Scalar.addi v2 c11_i32_250
  let c16_i32_251 : BitVec 32 := 16#32
  let v247 : BitVec 32 := Scalar.remsi v246 c16_i32_251
  let c1_i32_258 : BitVec 32 := 1#32
  let v248 : BitVec 32 := Scalar.muli v247 c1_i32_258
  let v249 : BitVec 32 := Scalar.addi c0_i32_259 v248
  v249.toNat
def k0_dev27 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_264 : BitVec 32 := 12#32
  let v258 : BitVec 32 := Scalar.addi v2 c12_i32_264
  let c16_i32_265 : BitVec 32 := 16#32
  let v259 : BitVec 32 := Scalar.remsi v258 c16_i32_265
  let c1_i32_272 : BitVec 32 := 1#32
  let v260 : BitVec 32 := Scalar.muli v259 c1_i32_272
  let v261 : BitVec 32 := Scalar.addi c0_i32_273 v260
  v261.toNat
def k0_dev28 (d0 : Dev nD) : Nat :=
  let c0_i32_287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_278 : BitVec 32 := 13#32
  let v270 : BitVec 32 := Scalar.addi v2 c13_i32_278
  let c16_i32_279 : BitVec 32 := 16#32
  let v271 : BitVec 32 := Scalar.remsi v270 c16_i32_279
  let c1_i32_286 : BitVec 32 := 1#32
  let v272 : BitVec 32 := Scalar.muli v271 c1_i32_286
  let v273 : BitVec 32 := Scalar.addi c0_i32_287 v272
  v273.toNat
def k0_dev29 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_292 : BitVec 32 := 14#32
  let v282 : BitVec 32 := Scalar.addi v2 c14_i32_292
  let c16_i32_293 : BitVec 32 := 16#32
  let v283 : BitVec 32 := Scalar.remsi v282 c16_i32_293
  let c1_i32_300 : BitVec 32 := 1#32
  let v284 : BitVec 32 := Scalar.muli v283 c1_i32_300
  let v285 : BitVec 32 := Scalar.addi c0_i32_301 v284
  v285.toNat
def k0_dev30 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_306 : BitVec 32 := 15#32
  let v294 : BitVec 32 := Scalar.addi v2 c15_i32_306
  let c16_i32_307 : BitVec 32 := 16#32
  let v295 : BitVec 32 := Scalar.remsi v294 c16_i32_307
  let c1_i32_314 : BitVec 32 := 1#32
  let v296 : BitVec 32 := Scalar.muli v295 c1_i32_314
  let v297 : BitVec 32 := Scalar.addi c0_i32_315 v296
  v297.toNat
def k0_dev31 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_350 : BitVec 32 := 1#32
  let v348 : BitVec 32 := Scalar.addi v2 c1_i32_350
  let c16_i32_351 : BitVec 32 := 16#32
  let v349 : BitVec 32 := Scalar.remsi v348 c16_i32_351
  let c1_i32_358 : BitVec 32 := 1#32
  let v350 : BitVec 32 := Scalar.muli v349 c1_i32_358
  let v351 : BitVec 32 := Scalar.addi c0_i32_359 v350
  v351.toNat
def k0_dev32 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_364 : BitVec 32 := 2#32
  let v360 : BitVec 32 := Scalar.addi v2 c2_i32_364
  let c16_i32_365 : BitVec 32 := 16#32
  let v361 : BitVec 32 := Scalar.remsi v360 c16_i32_365
  let c1_i32_372 : BitVec 32 := 1#32
  let v362 : BitVec 32 := Scalar.muli v361 c1_i32_372
  let v363 : BitVec 32 := Scalar.addi c0_i32_373 v362
  v363.toNat
def k0_dev33 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_378 : BitVec 32 := 3#32
  let v372 : BitVec 32 := Scalar.addi v2 c3_i32_378
  let c16_i32_379 : BitVec 32 := 16#32
  let v373 : BitVec 32 := Scalar.remsi v372 c16_i32_379
  let c1_i32_386 : BitVec 32 := 1#32
  let v374 : BitVec 32 := Scalar.muli v373 c1_i32_386
  let v375 : BitVec 32 := Scalar.addi c0_i32_387 v374
  v375.toNat
def k0_dev34 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_392 : BitVec 32 := 4#32
  let v384 : BitVec 32 := Scalar.addi v2 c4_i32_392
  let c16_i32_393 : BitVec 32 := 16#32
  let v385 : BitVec 32 := Scalar.remsi v384 c16_i32_393
  let c1_i32_400 : BitVec 32 := 1#32
  let v386 : BitVec 32 := Scalar.muli v385 c1_i32_400
  let v387 : BitVec 32 := Scalar.addi c0_i32_401 v386
  v387.toNat
def k0_dev35 (d0 : Dev nD) : Nat :=
  let c0_i32_415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_406 : BitVec 32 := 5#32
  let v396 : BitVec 32 := Scalar.addi v2 c5_i32_406
  let c16_i32_407 : BitVec 32 := 16#32
  let v397 : BitVec 32 := Scalar.remsi v396 c16_i32_407
  let c1_i32_414 : BitVec 32 := 1#32
  let v398 : BitVec 32 := Scalar.muli v397 c1_i32_414
  let v399 : BitVec 32 := Scalar.addi c0_i32_415 v398
  v399.toNat
def k0_dev36 (d0 : Dev nD) : Nat :=
  let c0_i32_429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_420 : BitVec 32 := 6#32
  let v408 : BitVec 32 := Scalar.addi v2 c6_i32_420
  let c16_i32_421 : BitVec 32 := 16#32
  let v409 : BitVec 32 := Scalar.remsi v408 c16_i32_421
  let c1_i32_428 : BitVec 32 := 1#32
  let v410 : BitVec 32 := Scalar.muli v409 c1_i32_428
  let v411 : BitVec 32 := Scalar.addi c0_i32_429 v410
  v411.toNat
def k0_dev37 (d0 : Dev nD) : Nat :=
  let c0_i32_443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_434 : BitVec 32 := 7#32
  let v420 : BitVec 32 := Scalar.addi v2 c7_i32_434
  let c16_i32_435 : BitVec 32 := 16#32
  let v421 : BitVec 32 := Scalar.remsi v420 c16_i32_435
  let c1_i32_442 : BitVec 32 := 1#32
  let v422 : BitVec 32 := Scalar.muli v421 c1_i32_442
  let v423 : BitVec 32 := Scalar.addi c0_i32_443 v422
  v423.toNat
def k0_dev38 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_448 : BitVec 32 := 8#32
  let v432 : BitVec 32 := Scalar.addi v2 c8_i32_448
  let c16_i32_449 : BitVec 32 := 16#32
  let v433 : BitVec 32 := Scalar.remsi v432 c16_i32_449
  let c1_i32_456 : BitVec 32 := 1#32
  let v434 : BitVec 32 := Scalar.muli v433 c1_i32_456
  let v435 : BitVec 32 := Scalar.addi c0_i32_457 v434
  v435.toNat
def k0_dev39 (d0 : Dev nD) : Nat :=
  let c0_i32_471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_462 : BitVec 32 := 9#32
  let v444 : BitVec 32 := Scalar.addi v2 c9_i32_462
  let c16_i32_463 : BitVec 32 := 16#32
  let v445 : BitVec 32 := Scalar.remsi v444 c16_i32_463
  let c1_i32_470 : BitVec 32 := 1#32
  let v446 : BitVec 32 := Scalar.muli v445 c1_i32_470
  let v447 : BitVec 32 := Scalar.addi c0_i32_471 v446
  v447.toNat
def k0_dev40 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_476 : BitVec 32 := 10#32
  let v456 : BitVec 32 := Scalar.addi v2 c10_i32_476
  let c16_i32_477 : BitVec 32 := 16#32
  let v457 : BitVec 32 := Scalar.remsi v456 c16_i32_477
  let c1_i32_484 : BitVec 32 := 1#32
  let v458 : BitVec 32 := Scalar.muli v457 c1_i32_484
  let v459 : BitVec 32 := Scalar.addi c0_i32_485 v458
  v459.toNat
def k0_dev41 (d0 : Dev nD) : Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_490 : BitVec 32 := 11#32
  let v468 : BitVec 32 := Scalar.addi v2 c11_i32_490
  let c16_i32_491 : BitVec 32 := 16#32
  let v469 : BitVec 32 := Scalar.remsi v468 c16_i32_491
  let c1_i32_498 : BitVec 32 := 1#32
  let v470 : BitVec 32 := Scalar.muli v469 c1_i32_498
  let v471 : BitVec 32 := Scalar.addi c0_i32_499 v470
  v471.toNat
def k0_dev42 (d0 : Dev nD) : Nat :=
  let c0_i32_513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_504 : BitVec 32 := 12#32
  let v480 : BitVec 32 := Scalar.addi v2 c12_i32_504
  let c16_i32_505 : BitVec 32 := 16#32
  let v481 : BitVec 32 := Scalar.remsi v480 c16_i32_505
  let c1_i32_512 : BitVec 32 := 1#32
  let v482 : BitVec 32 := Scalar.muli v481 c1_i32_512
  let v483 : BitVec 32 := Scalar.addi c0_i32_513 v482
  v483.toNat
def k0_dev43 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_518 : BitVec 32 := 13#32
  let v492 : BitVec 32 := Scalar.addi v2 c13_i32_518
  let c16_i32_519 : BitVec 32 := 16#32
  let v493 : BitVec 32 := Scalar.remsi v492 c16_i32_519
  let c1_i32_526 : BitVec 32 := 1#32
  let v494 : BitVec 32 := Scalar.muli v493 c1_i32_526
  let v495 : BitVec 32 := Scalar.addi c0_i32_527 v494
  v495.toNat
def k0_dev44 (d0 : Dev nD) : Nat :=
  let c0_i32_541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_532 : BitVec 32 := 14#32
  let v504 : BitVec 32 := Scalar.addi v2 c14_i32_532
  let c16_i32_533 : BitVec 32 := 16#32
  let v505 : BitVec 32 := Scalar.remsi v504 c16_i32_533
  let c1_i32_540 : BitVec 32 := 1#32
  let v506 : BitVec 32 := Scalar.muli v505 c1_i32_540
  let v507 : BitVec 32 := Scalar.addi c0_i32_541 v506
  v507.toNat
def k0_dev45 (d0 : Dev nD) : Nat :=
  let c0_i32_555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_546 : BitVec 32 := 15#32
  let v516 : BitVec 32 := Scalar.addi v2 c15_i32_546
  let c16_i32_547 : BitVec 32 := 16#32
  let v517 : BitVec 32 := Scalar.remsi v516 c16_i32_547
  let c1_i32_554 : BitVec 32 := 1#32
  let v518 : BitVec 32 := Scalar.muli v517 c1_i32_554
  let v519 : BitVec 32 := Scalar.addi c0_i32_555 v518
  v519.toNat
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x16384 : Shape := ⟨2, ![4096, 16384]⟩
abbrev S1x16384 : Shape := ⟨2, ![1, 16384]⟩
abbrev S_ : Shape := ⟨0, ![]⟩
abbrev S4096 : Shape := ⟨1, ![4096]⟩
abbrev S4096x1 : Shape := ⟨2, ![4096, 1]⟩

abbrev nBuf : Space → Nat
  | .hbm => 46
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S1x16384, .f32⟩
  | .hbm, ⟨2, _⟩ => ⟨S1x16384, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .i32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x16384, .f32⟩
  | .hbm, ⟨17, _⟩ => ⟨S4096x16384, .f32⟩
  | .hbm, ⟨18, _⟩ => ⟨S4096x16384, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x16384, .f32⟩
  | .hbm, ⟨34, _⟩ => ⟨S4096x16384, .f32⟩
  | .hbm, ⟨35, _⟩ => ⟨S4096x16384, .f32⟩
  | .hbm, ⟨36, _⟩ => ⟨S4096x16384, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x16384, .f32⟩
  | .hbm, ⟨42, _⟩ => ⟨S4096x16384, .f32⟩
  | .hbm, ⟨43, _⟩ => ⟨S4096x16384, .f32⟩
  | .hbm, ⟨44, _⟩ => ⟨S4096x16384, .f32⟩
  | .hbm, ⟨45, _⟩ => ⟨S4096x16384, .bf16⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩

abbrev nD : Nat := 1
abbrev τ : Topo := Topo.v7x

variable {F : FTy → Type} [FloatOps F]
-- ==== Proof.Places.lean ====
/-
  The places of the column-sharded layer normalisation kernel: the ring of sixteen devices, the buffers,
  the pieces they are held in, and the semaphores, each with the few facts the rest of the proof reads.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ValueLayout
public import Idealize.ShloMosaic.Lib.Tactic

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The devices -/

/-- The device `j + 1` places after `c` around the ring of sixteen. -/
def peer (c : Dev nD) (j : Fin 15) : Dev nD := ⟨(c.val + (j.val + 1)) % 16, Nat.mod_lt _ (by decide)⟩

/-- The device whose statistics device `c` keeps in slot `d`: the one `d` places before it. -/
def sender (c : Dev nD) (d : Fin 16) : Dev nD := ⟨(c.val + (16 - d.val)) % 16, Nat.mod_lt _ (by decide)⟩

/-- Going on by the complementary distance comes back. -/
theorem peer_peer_rev (c : Dev nD) (j : Fin 15) : peer (peer c j) j.rev = c := by
  have hc : c.val < 16 := c.isLt
  have hj := j.isLt
  apply Fin.ext
  simp only [peer, Fin.val_rev]
  omega

/-- Slot `j + 1` of the device `j + 1` places on keeps `c`'s own statistics. -/
theorem sender_peer (c : Dev nD) (j : Fin 15) : sender (peer c j) j.succ = c := by
  have hc : c.val < 16 := c.isLt
  have hj := j.isLt
  apply Fin.ext
  simp only [peer, sender, Fin.val_succ]
  omega

theorem sender_zero (c : Dev nD) : sender c 0 = c := by
  have hc : c.val < 16 := c.isLt
  apply Fin.ext
  simp only [sender, Fin.val_zero]
  omega

/-- For a fixed slot, every device sends to exactly one. -/
def around (j : Fin 15) : Dev nD ≃ Dev nD where
  toFun c := peer c j
  invFun c := peer c j.rev
  left_inv c := peer_peer_rev c j
  right_inv c := by have := peer_peer_rev c j.rev; rwa [Fin.rev_rev] at this

theorem peer_rev_peer (c : Dev nD) (j : Fin 15) : peer (peer c j.rev) j = c := (around j).right_inv c

/-- For a fixed device, the sixteen slots keep the statistics of the sixteen devices. -/
def senders (c : Dev nD) : Fin 16 ≃ Dev nD where
  toFun d := sender c d
  invFun p := ⟨(c.val + (16 - p.val)) % 16, Nat.mod_lt _ (by decide)⟩
  left_inv d := by
    have hc : c.val < 16 := c.isLt
    have hd := d.isLt
    apply Fin.ext; simp only [sender]; omega
  right_inv p := by
    have hc : c.val < 16 := c.isLt
    have hd : p.val < 16 := p.isLt
    apply Fin.ext; simp only [sender]; omega

/-! ## The buffers -/

abbrev xM : Memref sig .tc .hbm S4096x1024 .f32 := Memref.whole main_arg0
abbrev gM : Memref sig .tc .vmem S1x1024 .f32 := Memref.whole cc0_stg0_0
abbrev bM : Memref sig .tc .vmem S1x1024 .f32 := Memref.whole cc0_stg1_0
abbrev yM : Memref sig .tc .hbm S4096x1024 .bf16 := Memref.whole main_v1
abbrev inM : Memref sig .tc .vmem S2x1024x1024 .f32 := Memref.whole cc0_scratch0
abbrev keepM : Memref sig .tc .vmem S4096x1024 .bf16 := Memref.whole cc0_scratch1
abbrev outM : Memref sig .tc .vmem S2x1024x1024 .bf16 := Memref.whole cc0_scratch2
abbrev stM : Memref sig .tc .vmem S16x2x4096 .f32 := Memref.whole cc0_scratch3

/-! ## The pieces the buffers are held in -/

theorem row_inb (b : Fin 4) : ∀ a, (![1024 * b.val, 0] : Fin 2 → ℕ) a + S1024x1024.size a ≤ S4096x1024.size a := by
  have := b.isLt
  intro a; fin_cases a
  · show 1024 * b.val + 1024 ≤ 4096; omega
  · show 0 + 1024 ≤ 1024; omega

/-- The `b`-th block of 1024 rows of an array of 4096. -/
abbrev rowR (b : Fin 4) : Rect S4096x1024 := Rect.unit (s := S4096x1024) ![1024 * b.val, 0] S1024x1024.size (row_inb b)

theorem buf_inb (s : Fin 2) : ∀ a, (![s.val, 0, 0] : Fin 3 → ℕ) a + S1x1024x1024.size a ≤ S2x1024x1024.size a := by
  have := s.isLt
  intro a; fin_cases a
  · show s.val + 1 ≤ 2; omega
  · show 0 + 1024 ≤ 1024; omega
  · show 0 + 1024 ≤ 1024; omega

/-- One of the two slots of a double buffer. -/
abbrev bufR (s : Fin 2) : Rect S2x1024x1024 := Rect.unit (s := S2x1024x1024) ![s.val, 0, 0] S1x1024x1024.size (buf_inb s)

theorem stat_inb (d : Fin 16) (h : Fin 2) :
    ∀ a, (![d.val, 0, 2048 * h.val] : Fin 3 → ℕ) a + S1x2x2048.size a ≤ S16x2x4096.size a := by
  have := d.isLt; have := h.isLt
  intro a; fin_cases a
  · show d.val + 1 ≤ 16; omega
  · show 0 + 2 ≤ 2; omega
  · show 2048 * h.val + 2048 ≤ 4096; omega

/-- Half `h` of slot `d` of the statistics. -/
abbrev statR (d : Fin 16) (h : Fin 2) : Rect S16x2x4096 :=
  Rect.unit (s := S16x2x4096) ![d.val, 0, 2048 * h.val] S1x2x2048.size (stat_inb d h)

theorem half_inb (h : Fin 2) :
    ∀ a, (![0, 0, 2048 * h.val] : Fin 3 → ℕ) a + S16x2x2048.size a ≤ S16x2x4096.size a := by
  have := h.isLt
  intro a; fin_cases a
  · show 0 + 16 ≤ 16; omega
  · show 0 + 2 ≤ 2; omega
  · show 2048 * h.val + 2048 ≤ 4096; omega

/-- Half `h` of all sixteen slots. -/
abbrev halfR (h : Fin 2) : Rect S16x2x4096 :=
  Rect.unit (s := S16x2x4096) ![0, 0, 2048 * h.val] S16x2x2048.size (half_inb h)

theorem mem_rowR {b : Fin 4} {i : S4096x1024.Idx} : i ∈ (rowR b).set ↔ (i 0).val / 1024 = b.val := by
  rw [Rect.mem_set_unit, Fin.forall_fin_two]
  have h1 : (i 1).val < 1024 := (i 1).isLt
  constructor
  · rintro ⟨⟨h, h'⟩, -⟩
    have h : 1024 * b.val ≤ (i 0).val := h
    have h' : (i 0).val < 1024 * b.val + 1024 := h'
    omega
  · intro h
    refine ⟨⟨show 1024 * b.val ≤ (i 0).val by omega, show (i 0).val < 1024 * b.val + 1024 by omega⟩, ⟨Nat.zero_le _, show (i 1).val < 0 + 1024 by omega⟩⟩

theorem mem_bufR {s : Fin 2} {i : S2x1024x1024.Idx} : i ∈ (bufR s).set ↔ (i 0).val = s.val := by
  rw [Rect.mem_set_unit]
  have h1 : (i 1).val < 1024 := (i 1).isLt
  have h2 : (i 2).val < 1024 := (i 2).isLt
  constructor
  · intro h
    have h : s.val ≤ (i 0).val ∧ (i 0).val < s.val + 1 := h 0
    omega
  · intro h a
    fin_cases a
    · exact show s.val ≤ (i 0).val ∧ (i 0).val < s.val + 1 by omega
    · exact show 0 ≤ (i 1).val ∧ (i 1).val < 0 + 1024 by omega
    · exact show 0 ≤ (i 2).val ∧ (i 2).val < 0 + 1024 by omega

theorem mem_statR {d : Fin 16} {h : Fin 2} {i : S16x2x4096.Idx} :
    i ∈ (statR d h).set ↔ (i 0).val = d.val ∧ (i 2).val / 2048 = h.val := by
  rw [Rect.mem_set_unit]
  have h1 : (i 1).val < 2 := (i 1).isLt
  constructor
  · intro hh
    have h0 : d.val ≤ (i 0).val ∧ (i 0).val < d.val + 1 := hh 0
    have h2 : 2048 * h.val ≤ (i 2).val ∧ (i 2).val < 2048 * h.val + 2048 := hh 2
    omega
  · intro hh a
    fin_cases a
    · exact show d.val ≤ (i 0).val ∧ (i 0).val < d.val + 1 by omega
    · exact show 0 ≤ (i 1).val ∧ (i 1).val < 0 + 2 by omega
    · exact show 2048 * h.val ≤ (i 2).val ∧ (i 2).val < 2048 * h.val + 2048 by omega

theorem mem_halfR {h : Fin 2} {i : S16x2x4096.Idx} : i ∈ (halfR h).set ↔ (i 2).val / 2048 = h.val := by
  rw [Rect.mem_set_unit]
  have h0 : (i 0).val < 16 := (i 0).isLt
  have h1 : (i 1).val < 2 := (i 1).isLt
  constructor
  · intro hh
    have h2 : 2048 * h.val ≤ (i 2).val ∧ (i 2).val < 2048 * h.val + 2048 := hh 2
    omega
  · intro hh a
    fin_cases a
    · exact show 0 ≤ (i 0).val ∧ (i 0).val < 0 + 16 by omega
    · exact show 0 ≤ (i 1).val ∧ (i 1).val < 0 + 2 by omega
    · exact show 2048 * h.val ≤ (i 2).val ∧ (i 2).val < 2048 * h.val + 2048 by omega

/-! ## The pieces as the transfers name them -/

/-- Rows `1024 b …` of the input and of the result. -/
abbrev xRow (b : Fin 4) : Memref sig .tc .hbm S1024x1024 .f32 := xM.slice (rowR b) (fun _ => rfl)
abbrev yRow (b : Fin 4) : Memref sig .tc .hbm S1024x1024 .bf16 := yM.slice (rowR b) (fun _ => rfl)
/-- A slot of the incoming, of the outgoing double buffer. -/
abbrev inSlot (s : Fin 2) : Memref sig .tc .vmem S1024x1024 .f32 :=
  (inM.slice (bufR s) (fun _ => rfl)).squeeze S1024x1024 squeezes_S1x1024x1024_S1024x1024
abbrev outSlot (s : Fin 2) : Memref sig .tc .vmem S1024x1024 .bf16 :=
  (outM.slice (bufR s) (fun _ => rfl)).squeeze S1024x1024 squeezes_S1x1024x1024_S1024x1024
/-- Half `h` of slot `d` of the statistics. -/
abbrev statSlot (d : Fin 16) (h : Fin 2) : Memref sig .tc .vmem S2x2048 .f32 :=
  (stM.slice (statR d h) (fun _ => rfl)).squeeze S2x2048 squeezes_S1x2x2048_S2x2048

theorem xRow_set (b : Fin 4) : (xRow b).view.set = (rowR b).set := View.set_slice_whole _ _
theorem yRow_set (b : Fin 4) : (yRow b).view.set = (rowR b).set := View.set_slice_whole _ _
theorem inSlot_set (s : Fin 2) : (inSlot s).view.set = (bufR s).set := (View.set_reshape _ _).trans (View.set_slice_whole _ _)
theorem outSlot_set (s : Fin 2) : (outSlot s).view.set = (bufR s).set := (View.set_reshape _ _).trans (View.set_slice_whole _ _)
theorem statSlot_set (d : Fin 16) (h : Fin 2) : (statSlot d h).view.set = (statR d h).set :=
  (View.set_reshape _ _).trans (View.set_slice_whole _ _)

/-! ## The semaphores -/

/-- The semaphore the devices meet on before the first transfer between them. -/
abbrev barS : Sem sig := (SemArray.scalar (sig.barrier 0 rfl) : Sems sig S_).sem

theorem sem_inb (h : Fin 2) (j : Fin 15) : ∀ a, (![h.val, j.val] : Fin 2 → ℕ) a + S1x1.size a ≤ S2x15.size a := by
  have := h.isLt; have := j.isLt
  intro a; fin_cases a
  · show h.val + 1 ≤ 2; omega
  · show j.val + 1 ≤ 15; omega

theorem sem2_inb (s : Fin 2) : ∀ a, (![s.val] : Fin 1 → ℕ) a + S1.size a ≤ S2.size a := by
  have := s.isLt
  intro a; fin_cases a
  show s.val + 1 ≤ 2; omega

/-- The semaphores of the transfer of half `h` to the device `j + 1` places on: its source's, its destination's. -/
abbrev sendS (h : Fin 2) (j : Fin 15) : DmaSem sig :=
  ((cc0_scratch4.slice (Rect.unit (s := S2x15) ![h.val, j.val] S1x1.size (sem_inb h j))).squeeze S_ squeezes_S1x1_S_).sem
abbrev recvS (h : Fin 2) (j : Fin 15) : DmaSem sig :=
  ((cc0_scratch5.slice (Rect.unit (s := S2x15) ![h.val, j.val] S1x1.size (sem_inb h j))).squeeze S_ squeezes_S1x1_S_).sem
/-- The semaphores of the slots of the two double buffers. -/
abbrev inS (s : Fin 2) : DmaSem sig :=
  ((cc0_scratch6.slice (Rect.unit (s := S2) ![s.val] S1.size (sem2_inb s))).squeeze S_ squeezes_S1_S_).sem
abbrev outS (s : Fin 2) : DmaSem sig :=
  ((cc0_scratch7.slice (Rect.unit (s := S2) ![s.val] S1.size (sem2_inb s))).squeeze S_ squeezes_S1_S_).sem

/-- The semaphores the devices share, by name: the barrier, and for either end of a transfer its half and distance. -/
abbrev Key : Type := Option (Bool × Fin 2 × Fin 15)

/-- The semaphore of a name; `false` is the source's end of a transfer, `true` the destination's. -/
abbrev keySem : Key → SemLoc sig
  | none => .reg barS
  | some (false, h, j) => .dma (sendS h j)
  | some (true, h, j) => .dma (recvS h j)

/-- The name of a semaphore, if the devices share it. -/
def keyOf : SemLoc sig → Option Key
  | .reg s => if s = barS then some none else none
  | .dma s =>
    if h : 2 ≤ s.val ∧ s.val < 62 then
      some (some (decide (32 ≤ s.val), ⟨(s.val - 2) / 15 % 2, Nat.mod_lt _ (by decide)⟩, ⟨(s.val - 2) % 15, Nat.mod_lt _ (by decide)⟩))
    else none

theorem keyOf_keySem : ∀ k : Key, keyOf (keySem k) = some k := by decide
theorem keyOf_in : ∀ s : Fin 2, keyOf (.dma (inS s)) = none := by decide
theorem keyOf_out : ∀ s : Fin 2, keyOf (.dma (outS s)) = none := by decide

theorem keySem_injective : Function.Injective keySem := fun a b h => by
  have := congrArg keyOf h
  rwa [keyOf_keySem, keyOf_keySem, Option.some.injEq] at this

end Cert.KernelIdeal.Norm

end
-- ==== Proof.Contents.lean ====
/-
  What each buffer of the kernel holds, from the contents the run starts with: the input's blocks, the
  statistics of every device's columns, the narrowed copy of the input, and the result.
-/
module

public import proofs.«01_k».proof.Proof.Places

@[expose] public section

noncomputable section

namespace Cert.KernelIdeal.Norm

open Cert.KernelIdeal Cert.KernelIdeal.Gen

open Idealize.ShloMosaic
open Idealize.ShloMosaic.TcCoe
open Idealize.ShloMosaic.ValueIdx

variable {F : FTy → Type} [FloatOps F]
variable (m : (ℓ : Loc nD τ sig) → Buf (Elt F) ℓ)

/-- Which of the four row blocks a row lies in, which of the two halves, and where in its block. -/
def blkOf (n : ℕ) : Fin 4 := ⟨n / 1024 % 4, Nat.mod_lt _ (by decide)⟩
def offOf (n : ℕ) : Fin 1024 := ⟨n % 1024, Nat.mod_lt _ (by decide)⟩

theorem blkOf_add (b : Fin 4) (n : ℕ) (hn : n < 1024) : blkOf (1024 * b.val + n) = b := by
  have := b.isLt
  apply Fin.ext; simp only [blkOf]; omega
theorem offOf_add (b : Fin 4) (n : ℕ) (hn : n < 1024) : offOf (1024 * b.val + n) = ⟨n, hn⟩ := by
  apply Fin.ext; simp only [offOf]; omega

/-- The row `n` of block `b`. -/
def rowAt (b : Fin 4) (n : Fin 1024) : Fin 4096 := ⟨1024 * b.val + n.val, by have := b.isLt; have := n.isLt; omega⟩

/-- Device `c`'s columns of the input, and of the two vectors as staged. -/
def xOf (c : Dev nD) : (main_arg0 : Ref sig .tc).ty.Contents (Elt F) := m ((c : Thread nD τ).loc main_arg0)
def gammaOf (c : Dev nD) : (cc0_stg0_0 : Ref sig .tc).ty.Contents (Elt F) :=
  (win0_0.blk (0 : Fin 1)).view.read (Elt F) (m ((c : Thread nD τ).loc main_arg1))
def betaOf (c : Dev nD) : (cc0_stg1_0 : Ref sig .tc).ty.Contents (Elt F) :=
  (win0_1.blk (0 : Fin 1)).view.read (Elt F) (m ((c : Thread nD τ).loc main_arg2))

/-- Block `b` of the input, as read back from a slot of the double buffer. -/
def inV (c : Dev nD) (b : Fin 4) : Vec F S1x1024x1024 .f32 :=
  fun i => xOf m c (ix2 (rowAt b ⟨(i 1).val, (i 1).isLt⟩) ⟨(i 2).val, (i 2).isLt⟩)

/-- The double buffer while its slots hold block `b`. -/
def inF (c : Dev nD) (b : Fin 4) : (cc0_scratch0 : Ref sig .tc).ty.Contents (Elt F) :=
  fun i => inV m c b (ix3 0 ⟨(i 1).val, (i 1).isLt⟩ ⟨(i 2).val, (i 2).isLt⟩)

/-- The row sums and the row sums of squares of block `b` of device `c`'s columns. -/
def sumsV (c : Dev nD) (b : Fin 4) : Vec F S1x2x1024 .f32 := k0_pay2 (inV m c b)

/-- All the statistics device `c` holds at the end: slot `d` is the device's `d` places before it. -/
def statF (c : Dev nD) : (cc0_scratch3 : Ref sig .tc).ty.Contents (Elt F) :=
  fun i => sumsV m (sender c ⟨(i 0).val, (i 0).isLt⟩) (blkOf (i 2).val) (ix3 0 ⟨(i 1).val, (i 1).isLt⟩ (offOf (i 2).val))

/-- Half `h` of them, as read. -/
def halfV (c : Dev nD) (h : Fin 2) : Vec F S16x2x2048 .f32 :=
  stM.view.readAt (Elt F) (halfR h).toLoadRect (statF m c)

/-- Block `b` of the narrowed input, and all of it. -/
def keepV (c : Dev nD) (b : Fin 4) : Vec F S1024x1024 .bf16 := k0_pay3 (inV m c b)
def keepF (c : Dev nD) : (cc0_scratch1 : Ref sig .tc).ty.Contents (Elt F) :=
  fun i => keepV m c (blkOf (i 0).val) (ix2 (offOf (i 0).val) ⟨(i 1).val, (i 1).isLt⟩)

/-- The number a sum is divided by. -/
abbrev widthV : F .f32 := Scalar.ofBits .f32 0x46800000#32

/-- Block `b` of the result, as stored into a slot of the outgoing double buffer. -/
def outV (c : Dev nD) (b : Fin 4) : Vec F S1x1024x1024 .bf16 :=
  let g := k0_pay14 (gammaOf m c)
  let s := k0_pay15 (betaOf m c)
  match b with
  | ⟨0, _⟩ => k0_pay22 g s (k0_pay19 (keepV m c 0)) (k0_pay20 (halfV m c 0)) (k0_pay21 (halfV m c 0))
  | ⟨1, _⟩ => k0_pay23 g s (k0_pay17 (halfV m c 0)) (k0_pay18 (halfV m c 0)) (keepV m c 1)
  | ⟨2, _⟩ => k0_pay28 g s (k0_pay25 (halfV m c 1)) (k0_pay26 (halfV m c 1)) widthV (keepV m c 2)
  | ⟨3, _⟩ => k0_pay29 g s (k0_pay25 (halfV m c 1)) (k0_pay27 (k0_pay25 (halfV m c 1)) (k0_pay26 (halfV m c 1)) widthV) (keepV m c 3)

/-- The outgoing double buffer while its slots hold block `b`, and the result. -/
def outSlotF (c : Dev nD) (b : Fin 4) : (cc0_scratch2 : Ref sig .tc).ty.Contents (Elt F) :=
  fun i => outV m c b (ix3 0 ⟨(i 1).val, (i 1).isLt⟩ ⟨(i 2).val, (i 2).isLt⟩)
def outF (c : Dev nD) : (main_v1 : Ref sig .tc).ty.Contents (Elt F) :=
  fun i => outV m c (blkOf (i 0).val) (ix3 0 (offOf (i 0).val) ⟨(i 1).val, (i 1).isLt⟩)

end Cert.KernelIdeal.Norm

end
-- ==== Proof.Protocol.lean ====
/-
  The protocol of the kernel: which semaphore is paid by whom, with how much, and what comes with it; what
  every device owes at launch; and in which order waits may be entered.

  A device first signals each of the fifteen others on the barrier; the signal to a device hands it the slot
  it will write on the signalling device. Having waited for fifteen units it sends either half of its own
  statistics to each of the others, then waits for its sends and for what the others sent to it.
-/
module

public import proofs.«01_k».proof.Proof.Contents

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

/-- The duties of the shared semaphores, named by distance. -/
abbrev UB : Type := URounds (GSem nD τ sig) (Fin 15)
/-- The staging's duties, the shared semaphores' duties, and the counters of the transfers within a device. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb

instance ER_landsIn : (ER : Emb UB 𝕄).LandsIn (upEmb : UEmb _ 𝕄) := by unfold ER embR; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## What is handed over -/

/-- The semaphore of a name on a device. -/
abbrev cell (c : Dev nD) (k : Key) : GSem nD τ sig := ((c : Thread nD τ), keySem k)

/-- What one transfer of half a slot credits. -/
def N : ℕ := (statSlot 0 0).view.dmaCredit
theorem N_pos : 0 < N := View.dmaCredit_pos _ (by decide)
theorem credit_stat (d : Fin 16) (h : Fin 2) : (statSlot d h).view.dmaCredit = N := rfl
theorem amount_stat (d : Fin 16) (h : Fin 2) (q : DmaSem sig) : (statSlot d h).view.amount (.dma q) = N := rfl

/-- Half `h` of slot `d` of device `c`'s statistics, at share `q`. -/
def statPts (c : Dev nD) (d : Fin 16) (h : Fin 2) (q : PosShare TreeShare) (f : Buf (Elt F) ((c : Thread nD τ).loc cc0_scratch3)) : sProp 𝕄 :=
  ((c : Thread nD τ).loc cc0_scratch3) ↦[(statR d h).set]{q} f

/-- The share of its own statistics a device reads from for the transfer to the device `j + 1` places on. -/
def part (j : Fin 15) : PosShare TreeShare := Transfers.dealOf fullShare (Finset.univ : Finset (Fin 15)) j

/-- What the signal of the device `j + 1` places on hands `c`: both halves of the slot there that `c` writes. -/
def barPay (c : Dev nD) (j : Fin 15) : sProp 𝕄 :=
  iprop((∃ f, statPts (peer c j) j.succ 0 fullShare f) ∗ (∃ f, statPts (peer c j) j.succ 1 fullShare f))
/-- What a completed send gives back: the share read from. -/
def sendPay (c : Dev nD) (h : Fin 2) (j : Fin 15) : sProp 𝕄 := statPts c 0 h (part j) (statF m c)
/-- What a completed arrival brings: the slot, holding the sender's statistics. -/
def recvPay (c : Dev nD) (h : Fin 2) (j : Fin 15) : sProp 𝕄 := statPts c j.succ h fullShare (statF m c)

instance statPts_storable (c : Dev nD) (d h q f) : BI.Storable (upEmb : UEmb _ 𝕄) (statPts (F := F) c d h q f) := by
  unfold statPts; infer_instance

/-! ## The schedule -/

/-- What the duty `d` on the semaphore of name `k` hands device `c`. -/
def payOf (c : Dev nD) (k : Option Key) (d : Fin 15) : sProp 𝕄 :=
  match k with
  | some none => barPay c d
  | some (some (false, h, j)) => sendPay m c h j
  | some (some (true, h, j)) => recvPay m c h j
  | none => iprop(emp)

instance payOf_storable (c : Dev nD) (k : Option Key) (d : Fin 15) : BI.Storable (upEmb : UEmb _ 𝕄) (payOf (F := F) m c k d) := by
  rcases k with _ | _ | ⟨_ | _, h, j⟩ <;> (unfold payOf barPay sendPay recvPay; infer_instance)

def dutiesOf (k : Option Key) : Finset (Fin 15) :=
  match k with
  | some none => Finset.univ
  | some (some _) => {0}
  | none => ∅

def amountOf (k : Option Key) : ℕ :=
  match k with
  | some (some _) => N
  | _ => 1

/-- One round: a barrier semaphore has a duty of one unit for each of the other devices, either end of a transfer
    the one duty of what the transfer credits. -/
def sched : Rounds.Schedule (GSem nD τ sig) (Fin 15) 𝕄 where
  duties g r := if r = 0 ∧ g.1.2 = .tc then dutiesOf (keyOf g.2) else ∅
  unitless _ := False
  amount g _ _ := amountOf (keyOf g.2)
  payload g _ d := payOf m g.1.1 (keyOf g.2) d
  amount_pos g _ _ _ := by
    rcases keyOf g.2 with _ | _ | _
    · exact Nat.one_pos
    · exact Nat.one_pos
    · exact N_pos

instance sched_payload_storable (g : GSem nD τ sig) (r : ℕ) (d : Fin 15) :
    BI.Storable (upEmb : UEmb _ 𝕄) ((sched (F := F) m).payload g r d) := payOf_storable m _ _ _

theorem duties_cell (c : Dev nD) (k : Key) : (sched (F := F) m).duties (cell c k) 0 = dutiesOf (some k) := by
  dsimp only [sched]
  rw [keyOf_keySem]; exact if_pos ⟨rfl, rfl⟩
theorem duties_later (g : GSem nD τ sig) : ∀ r, 1 ≤ r → (sched (F := F) m).duties g r = ∅ :=
  fun r hr => if_neg fun h => by omega
theorem amount_cell (c : Dev nD) (k : Key) (d : Fin 15) : (sched (F := F) m).amount (cell c k) 0 d = amountOf (some k) := by
  show amountOf (keyOf (keySem k)) = _
  rw [keyOf_keySem]
theorem payload_cell (c : Dev nD) (k : Key) (d : Fin 15) : (sched (F := F) m).payload (cell c k) 0 d = payOf m c (some k) d := by
  show payOf m c (keyOf (keySem k)) d = _
  rw [keyOf_keySem]

theorem payload_bar (c : Dev nD) (d : Fin 15) : (sched (F := F) m).payload (cell c none) 0 d = barPay c d := payload_cell m c none d
theorem payload_send (c : Dev nD) (h j d) : (sched (F := F) m).payload (cell c (some (false, h, j))) 0 d = sendPay m c h j :=
  payload_cell m c _ d
theorem payload_recv (c : Dev nD) (h j d) : (sched (F := F) m).payload (cell c (some (true, h, j))) 0 d = recvPay m c h j :=
  payload_cell m c _ d

theorem expect_bar (c : Dev nD) : (sched (F := F) m).expect (cell c none) 0 = 15 := by
  unfold Schedule.expect Schedule.amountOf
  rw [duties_cell, Finset.sum_congr rfl fun d _ => amount_cell m c none d]
  rfl
theorem expect_xfer (c : Dev nD) (k : Bool × Fin 2 × Fin 15) : (sched (F := F) m).expect (cell c (some k)) 0 = N := by
  unfold Schedule.expect Schedule.amountOf
  rw [duties_cell, Finset.sum_congr rfl fun d _ => amount_cell m c (some k) d]
  exact Finset.sum_singleton _ _

/-- What the whole round of a semaphore brings. -/
def restOf (c : Dev nD) (k : Key) : sProp 𝕄 := bigSep (dutiesOf (some k)) fun d => payOf m c (some k) d
theorem rest_cell (c : Dev nD) (k : Key) :
    bigSep ((sched (F := F) m).duties (cell c k) 0 \ ∅) (fun d => (sched (F := F) m).payload (cell c k) 0 d) = restOf m c k := by
  rw [Finset.sdiff_empty, duties_cell]
  exact bigSep_congr fun d _ => payload_cell m c k d
theorem restOf_send (c : Dev nD) (h j) : restOf m c (some (false, h, j)) = sendPay m c h j := bigSep_singleton
theorem restOf_recv (c : Dev nD) (h j) : restOf m c (some (true, h, j)) = recvPay m c h j := bigSep_singleton

/-! ## What the devices owe -/

/-- The distances from the `n`-th on, and those before it. -/
def since (n : ℕ) : Finset (Fin 15) := Finset.univ.filter fun e => n ≤ e.val
def until' (n : ℕ) : Finset (Fin 15) := Finset.univ.filter fun e => e.val < n

theorem since_zero : since 0 = Finset.univ := Finset.filter_true_of_mem fun _ _ => Nat.zero_le _
theorem since_end : since 15 = ∅ := Finset.filter_false_of_mem fun e _ => by have := e.isLt; omega
theorem until_zero : until' 0 = ∅ := Finset.filter_false_of_mem fun e _ => by omega
theorem until_end : until' 15 = Finset.univ := Finset.filter_true_of_mem fun e _ => e.isLt
theorem since_peel (e : Fin 15) : since e.val = insert e (since (e.val + 1)) := by
  ext i; simp only [since, Finset.mem_filter, Finset.mem_univ, true_and, Finset.mem_insert, Fin.ext_iff]; omega
theorem not_mem_since (e : Fin 15) : e ∉ since (e.val + 1) := by
  simp only [since, Finset.mem_filter, Finset.mem_univ, true_and]; omega
theorem until_push (e : Fin 15) : until' (e.val + 1) = insert e (until' e.val) := by
  ext i; simp only [until', Finset.mem_filter, Finset.mem_univ, true_and, Finset.mem_insert, Fin.ext_iff]; omega
theorem not_mem_until (e : Fin 15) : e ∉ until' e.val := by
  simp only [until', Finset.mem_filter, Finset.mem_univ, true_and]; omega

/-- The arrivals of half `h` device `c` owes the others, and its signals, from the `n`-th on. -/
def owesHalf (c : Dev nD) (h : Fin 2) (n : ℕ) : CellTallies nD τ sig Unit :=
  ∑ e ∈ since n, tallyAt (cell (peer c e) (some (true, h, e))) () N
def owesBar (c : Dev nD) (n : ℕ) : CellTallies nD τ sig Unit :=
  ∑ e ∈ since n, tallyAt (cell (peer c e) none) () 1

/-- What device `c` owes at launch. -/
def O₀ (c : Dev nD) : CellTallies nD τ sig Unit := owesHalf c 1 0 + owesHalf c 0 0 + owesBar c 0

theorem owesHalf_peel (c : Dev nD) (h : Fin 2) (e : Fin 15) :
    owesHalf c h e.val = owesHalf c h (e.val + 1) + tallyAt (cell (peer c e) (some (true, h, e))) () N := by
  unfold owesHalf
  rw [since_peel, Finset.sum_insert (not_mem_since e), add_comm]
theorem owesBar_peel (c : Dev nD) (e : Fin 15) :
    owesBar c e.val = owesBar c (e.val + 1) + tallyAt (cell (peer c e) none) () 1 := by
  unfold owesBar
  rw [since_peel, Finset.sum_insert (not_mem_since e), add_comm]
theorem owesHalf_end (c : Dev nD) (h : Fin 2) : owesHalf c h 15 = 0 := by unfold owesHalf; rw [since_end]; rfl
theorem owesBar_end (c : Dev nD) : owesBar c 15 = 0 := by unfold owesBar; rw [since_end]; rfl

/-! ## The order of waits -/

def L (g : GSem nD τ sig) : Finset Unit := if g.1.2 = .tc then {()} else ∅
/-- The barrier at 1, arrivals at 2, everything else at 0. -/
def lvOf (k : Option Key) : ℕ :=
  match k with
  | some none => 1
  | some (some (true, _, _)) => 2
  | _ => 0
def lv (g : GSem nD τ sig) (_ : Unit) : ℕ := lvOf (keyOf g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed is owed to semaphores of level above `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.sum {n : ℕ} {O : Fin 15 → CellTallies nD τ sig Unit} (h : ∀ e, Above n (O e)) (S : Finset (Fin 15)) : Above n (∑ e ∈ S, O e) := by
  induction S using Finset.induction with
  | empty => exact Above.zero n
  | insert a s ha ih => rw [Finset.sum_insert ha]; exact (h a).add ih
theorem Above.tally {n : ℕ} (c : Dev nD) (k : Key) (v : ℕ) (hk : n < lvOf (some k)) : Above n (tallyAt (cell c k) () v) := fun g u hg => by
  rw [tallyAt_apply] at hg
  by_cases h : g = cell c k ∧ u = ()
  · rw [h.1]; exact ⟨rfl, by show n < lvOf (keyOf (keySem k)); rwa [keyOf_keySem]⟩
  · rw [if_neg h] at hg; exact absurd hg (Nat.lt_irrefl 0)

theorem above_half {n : ℕ} (hn : n < 2) (c : Dev nD) (h : Fin 2) (k : ℕ) : Above n (owesHalf c h k) :=
  Above.sum (fun e => Above.tally _ _ _ hn) _
theorem above_bar {n : ℕ} (hn : n < 1) (c : Dev nD) (k : ℕ) : Above n (owesBar c k) :=
  Above.sum (fun e => Above.tally _ _ _ hn) _
theorem above_start (c : Dev nD) : Above 0 (O₀ c) :=
  ((above_half (by decide) c 1 0).add (above_half (by decide) c 0 0)).add (above_bar (by decide) c 0)

/-- The order of waits, as a record every device keeps. -/
@[irreducible] def levels : sProp 𝕄 := levAts L lv
theorem levels_eq : levels (F := F) = levAts L lv := by unfold levels; rfl
instance levels_persistent : BI.Persistent (levels (F := F)) := by rw [levels_eq]; infer_instance

/-- A semaphore may be waited on while all that is owed lies above it. -/
theorem mayWait (c : Dev nD) (sm : SemLoc sig) (O : CellTallies nD τ sig Unit) (hO : Above (lvOf (keyOf sm)) O) :
    levels (F := F) ⊢ (MayWait (c : Thread nD τ) sm () O : sProp 𝕄) := by
  rw [levels_eq]
  exact MayOwe.of_cut (L := L) (lev := lv) (lvOf (keyOf sm))
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_refl _)
    (fun g u hg => (hO g u hg).2)

theorem mayWait_bar (c : Dev nD) (O : CellTallies nD τ sig Unit) (hO : Above 1 O) :
    levels (F := F) ⊢ (MayWait (c : Thread nD τ) (keySem none) () O : sProp 𝕄) :=
  mayWait c (keySem none) O (by rw [keyOf_keySem]; exact hO)

/-! ## What is known throughout -/

variable (K : Dev nD × Key → ℕ)

/-- Every shared semaphore's invariant, and that its first round has begun. -/
def records : sProp 𝕄 :=
  iprop((bigSep Finset.univ fun p : Dev nD × Key => cellInv ER (sched m) (K p) (cell p.1 p.2))
    ∗ (bigSep Finset.univ fun p : Dev nD × Key => reached ER (cell p.1 p.2) 0))
def env : sProp 𝕄 := iprop(records m K ∗ levels (F := F))

instance records_persistent : BI.Persistent (records (F := F) m K) := by unfold records; infer_instance
instance env_persistent : BI.Persistent (env (F := F) m K) := by unfold env; infer_instance

theorem env_inv (c : Dev nD) (k : Key) : env (F := F) m K ⊢ cellInv ER (sched m) (K (c, k)) (cell c k) := by
  unfold env records
  refine Entails.trans (sep_elim_left.trans sep_elim_left) ?_
  exact bigSep_elim (Finset.mem_univ (c, k))
theorem env_reached (c : Dev nD) (k : Key) : env (F := F) m K ⊢ reached ER (cell c k) 0 := by
  unfold env records
  refine Entails.trans (sep_elim_left.trans sep_elim_right) ?_
  exact bigSep_elim (Finset.mem_univ (c, k))
theorem env_lev : env (F := F) m K ⊢ levels (F := F) := by
  unfold env
  exact sep_elim_right
theorem env_wait (c : Dev nD) (sm : SemLoc sig) (O : CellTallies nD τ sig Unit) (hO : Above (lvOf (keyOf sm)) O) :
    env (F := F) m K ⊢ (MayWait (c : Thread nD τ) sm () O : sProp 𝕄) := (env_lev m K).trans (mayWait c sm O hO)
theorem env_wait_bar (c : Dev nD) (O : CellTallies nD τ sig Unit) (hO : Above 1 O) :
    env (F := F) m K ⊢ (MayWait (c : Thread nD τ) (keySem none) () O : sProp 𝕄) := (env_lev m K).trans (mayWait_bar c O hO)

end Cert.KernelIdeal.Norm

end
-- ==== Proof.Pieces.lean ====
/-
  What the transfers, stores and loads of the kernel do to the pieces they touch: each piece, rewritten, holds
  what the contents of its whole buffer say there.
-/
module

public import proofs.«01_k».proof.Proof.Contents
public import Idealize.ShloMosaic.Lib.Pipeline.Value
public import Idealize.ShloMosaic.Lib.Pipeline.ValueKit.Geometry

@[expose] public section

noncomputable section

namespace Cert.KernelIdeal.Norm

open Cert.KernelIdeal Cert.KernelIdeal.Gen

open Idealize.ShloMosaic
open Idealize.ShloMosaic.TcCoe
open Idealize.ShloMosaic.ValueIdx

variable {F : FTy → Type} [FloatOps F]
variable (m : (ℓ : Loc nD τ sig) → Buf (Elt F) ℓ)

/-! ## Where an index of a piece lies -/

theorem unit_emb_eq {s : Shape} (off size : Fin s.rank → ℕ) (inb) (j : (Rect.unit off size inb).shape.Idx) (i : s.Idx)
    (h : ∀ a, off a + (j a : ℕ) = (i a : ℕ)) : (Rect.unit off size inb).emb j = i := by
  funext a
  apply Fin.ext
  rw [ValueKit.rect_emb_unit_val]
  exact h a

theorem statR_emb (d : Fin 16) (h : Fin 2) (z : Fin 1) (x : Fin 2) (y : Fin 2048) :
    (statR d h).emb (ix3 z x y) = ix3 d x ⟨2048 * h.val + y.val, by have := h.isLt; have := y.isLt; omega⟩ :=
  unit_emb_eq _ _ _ _ _ fun a => by
    have := z.isLt
    fin_cases a
    · show d.val + z.val = d.val; omega
    · show 0 + x.val = x.val; omega
    · rfl

theorem statSlot_emb (d : Fin 16) (h : Fin 2) (x : Fin 2) (y : Fin 2048) :
    (statSlot d h).view.emb (ix2 x y) = ix3 d x ⟨2048 * h.val + y.val, by have := h.isLt; have := y.isLt; omega⟩ := by
  show (statR d h).emb (Shape.reshapeEquiv _ (ix2 x y)) = _
  exact (congrArg (statR d h).emb (reshapeEquiv_ix2_1ab _ x y)).trans (statR_emb d h _ x y)

theorem bufR_emb (s : Fin 2) (z : Fin 1) (x y : Fin 1024) : (bufR s).emb (ix3 z x y) = ix3 s x y :=
  unit_emb_eq _ _ _ _ _ fun a => by
    have := z.isLt
    fin_cases a
    · show s.val + z.val = s.val; omega
    · show 0 + x.val = x.val; omega
    · show 0 + y.val = y.val; omega

theorem inSlot_emb (s : Fin 2) (x y : Fin 1024) : (inSlot s).view.emb (ix2 x y) = ix3 s x y := by
  show (bufR s).emb (Shape.reshapeEquiv _ (ix2 x y)) = _
  exact (congrArg (bufR s).emb (reshapeEquiv_ix2_1ab _ x y)).trans (bufR_emb s _ x y)
theorem outSlot_emb (s : Fin 2) (x y : Fin 1024) : (outSlot s).view.emb (ix2 x y) = ix3 s x y := by
  show (bufR s).emb (Shape.reshapeEquiv _ (ix2 x y)) = _
  exact (congrArg (bufR s).emb (reshapeEquiv_ix2_1ab _ x y)).trans (bufR_emb s _ x y)

theorem rowR_emb (b : Fin 4) (x y : Fin 1024) : (rowR b).emb (ix2 x y) = ix2 (rowAt b x) y :=
  unit_emb_eq _ _ _ _ _ fun a => by
    fin_cases a
    · rfl
    · show 0 + y.val = y.val; omega

theorem blkOf_rowAt (b : Fin 4) (x : Fin 1024) : blkOf (rowAt b x).val = b := blkOf_add b x.val x.isLt
theorem offOf_rowAt (b : Fin 4) (x : Fin 1024) : offOf (rowAt b x).val = x := offOf_add b x.val x.isLt

theorem quarter_inb (b : Fin 4) :
    ∀ a, (![0, 0, 1024 * b.val] : Fin 3 → ℕ) a + S1x2x1024.size a ≤ S16x2x4096.size a := by
  have := b.isLt
  intro a; fin_cases a
  · show 0 + 1 ≤ 16; omega
  · show 0 + 2 ≤ 2; omega
  · show 1024 * b.val + 1024 ≤ 4096; omega

/-- The part of slot 0 that block `b`'s statistics go to. -/
abbrev quarterR (b : Fin 4) : Rect S16x2x4096 :=
  Rect.unit (s := S16x2x4096) ![0, 0, 1024 * b.val] S1x2x1024.size (quarter_inb b)

theorem mem_quarterR {b : Fin 4} {i : S16x2x4096.Idx} :
    i ∈ (quarterR b).set ↔ (i 0).val = 0 ∧ (i 2).val / 1024 = b.val := by
  rw [Rect.mem_set_unit]
  have h1 : (i 1).val < 2 := (i 1).isLt
  constructor
  · intro hh
    have h0 : 0 ≤ (i 0).val ∧ (i 0).val < 0 + 1 := hh 0
    have h2 : 1024 * b.val ≤ (i 2).val ∧ (i 2).val < 1024 * b.val + 1024 := hh 2
    omega
  · intro hh a
    fin_cases a
    · exact show 0 ≤ (i 0).val ∧ (i 0).val < 0 + 1 by omega
    · exact show 0 ≤ (i 1).val ∧ (i 1).val < 0 + 2 by omega
    · exact show 1024 * b.val ≤ (i 2).val ∧ (i 2).val < 1024 * b.val + 1024 by omega

theorem quarter_emb (b : Fin 4) (z : Fin 1) (x : Fin 2) (y : Fin 1024) :
    (quarterR b).emb (ix3 z x y) = ix3 (0 : Fin 16) x (rowAt b y) :=
  unit_emb_eq _ _ _ _ _ fun a => by
    have := z.isLt
    fin_cases a
    · show 0 + z.val = 0; omega
    · show 0 + x.val = x.val; omega
    · rfl

theorem stAccess_set (b : Fin 4) : (stM.access (quarterR b)).set = (quarterR b).set := View.set_slice_whole cc0_scratch3 _
theorem keepAccess_set (b : Fin 4) : (keepM.access (rowR b)).set = (rowR b).set := View.set_slice_whole cc0_scratch1 _
theorem outAccess_set (s : Fin 2) : (outM.access (bufR s)).set = (bufR s).set := View.set_slice_whole cc0_scratch2 _

/-! ## Transfers -/

/-- Half a slot arriving at the device `j + 1` places on holds what that device's statistics say of its sender. -/
theorem land_eq (c : Dev nD) (h : Fin 2) (j : Fin 15) (fd : (cc0_scratch3 : Ref sig .tc).ty.Contents (Elt F)) :
    ∀ i ∈ (statR j.succ h).set,
      (statSlot j.succ h).view.write (Elt F) fd ((statSlot 0 h).view.read (Elt F) (statF m c)) Finset.univ i = statF m (peer c j) i := by
  intro i hi
  rw [← statSlot_set] at hi
  obtain ⟨y, rfl⟩ := View.exists_emb_of_mem_set _ hi
  obtain ⟨x, z, rfl⟩ : ∃ (x : Fin 2) (z : Fin 2048), y = ix2 x z := ⟨y 0, y 1, eq_ix2 y⟩
  rw [View.write_emb_of_mem _ _ (Finset.mem_univ _), View.read_apply]
  show statF m c ((statSlot 0 h).view.emb (ix2 x z)) = statF m (peer c j) ((statSlot j.succ h).view.emb (ix2 x z))
  rw [statSlot_emb, statSlot_emb]
  unfold statF
  congr 1
  exact (sender_zero c).trans (sender_peer c j).symm

/-- A slot of the incoming double buffer, filled with block `b`. -/
theorem in_eq (c : Dev nD) (b : Fin 4) (s : Fin 2) (fd : (cc0_scratch0 : Ref sig .tc).ty.Contents (Elt F)) :
    ∀ i ∈ (bufR s).set,
      (inSlot s).view.write (Elt F) fd ((xRow b).view.read (Elt F) (xOf m c)) Finset.univ i = inF m c b i := by
  intro i hi
  rw [← inSlot_set] at hi
  obtain ⟨y, rfl⟩ := View.exists_emb_of_mem_set _ hi
  obtain ⟨x, z, rfl⟩ : ∃ x z : Fin 1024, y = ix2 x z := ⟨y 0, y 1, eq_ix2 y⟩
  rw [View.write_emb_of_mem _ _ (Finset.mem_univ _), View.read_apply]
  show xOf m c ((rowR b).emb (ix2 x z)) = inF m c b ((inSlot s).view.emb (ix2 x z))
  rw [inSlot_emb]
  exact congrArg (xOf m c) (rowR_emb b x z)

/-- Block `b` of the result, filled from a slot of the outgoing double buffer. -/
theorem out_eq (c : Dev nD) (b : Fin 4) (s : Fin 2) (fd : (main_v1 : Ref sig .tc).ty.Contents (Elt F)) :
    ∀ i ∈ (rowR b).set,
      (yRow b).view.write (Elt F) fd ((outSlot s).view.read (Elt F) (outSlotF m c b)) Finset.univ i = outF m c i := by
  intro i hi
  rw [← yRow_set] at hi
  obtain ⟨y, rfl⟩ := View.exists_emb_of_mem_set _ hi
  obtain ⟨x, z, rfl⟩ : ∃ x z : Fin 1024, y = ix2 x z := ⟨y 0, y 1, eq_ix2 y⟩
  rw [View.write_emb_of_mem _ _ (Finset.mem_univ _), View.read_apply]
  show outSlotF m c b ((outSlot s).view.emb (ix2 x z)) = outF m c ((rowR b).emb (ix2 x z))
  rw [outSlot_emb]
  refine Eq.trans ?_ (congrArg (outF m c) (rowR_emb b x z)).symm
  show outV m c b (ix3 0 x z) = outV m c (blkOf (rowAt b x).val) (ix3 0 (offOf (rowAt b x).val) z)
  rw [blkOf_rowAt, offOf_rowAt]

/-! ## Stores -/

theorem st_store_on (c : Dev nD) (b : Fin 4) (f : (cc0_scratch3 : Ref sig .tc).ty.Contents (Elt F)) :
    ∀ i ∈ (quarterR b).set, (stM.access (quarterR b)).write (Elt F) f (sumsV m c b) Finset.univ i = statF m c i := by
  intro i hi
  obtain ⟨y, rfl⟩ := View.exists_emb_of_mem_set (stM.access (quarterR b)) ((stAccess_set b).symm ▸ hi)
  obtain ⟨w, x, z, rfl⟩ : ∃ (w : Fin 1) (x : Fin 2) (z : Fin 1024), y = ix3 w x z := ⟨y 0, y 1, y 2, eq_ix3 y⟩
  rw [View.write_emb_of_mem _ _ (Finset.mem_univ _)]
  show sumsV m c b (ix3 w x z) = statF m c ((quarterR b).emb (ix3 w x z))
  refine Eq.trans ?_ (congrArg (statF m c) (quarter_emb b w x z)).symm
  show _ = sumsV m (sender c 0) (blkOf (rowAt b z).val) (ix3 0 x (offOf (rowAt b z).val))
  rw [sender_zero, blkOf_rowAt, offOf_rowAt]
  congr 2
  exact Subsingleton.elim (α := Fin 1) _ _

theorem st_store_off (c : Dev nD) (b : Fin 4) (f : (cc0_scratch3 : Ref sig .tc).ty.Contents (Elt F)) :
    ∀ i, i ∉ (quarterR b).set → (stM.access (quarterR b)).write (Elt F) f (sumsV m c b) Finset.univ i = f i := by
  intro i hi
  refine View.write_of_not_mem _ _ _ (fun h => hi ?_)
  rw [View.setOn_univ] at h
  exact (stAccess_set b) ▸ h

theorem quarter_sub (h : Fin 2) (b : Fin 4) (hb : b.val / 2 = h.val) : (quarterR b).set ⊆ (statR 0 h).set := fun i hi => by
  rw [mem_quarterR] at hi
  rw [mem_statR]
  have : ((0 : Fin 16).val) = 0 := rfl
  omega

/-- Both blocks of a half stored, the half of slot 0 holds the device's own statistics. -/
theorem st_store_both (c : Dev nD) (h : Fin 2) (b b' : Fin 4) (hb : b.val = 2 * h.val) (hb' : b'.val = 2 * h.val + 1)
    (f : (cc0_scratch3 : Ref sig .tc).ty.Contents (Elt F)) :
    ∀ i ∈ (statR 0 h).set,
      (stM.access (quarterR b')).write (Elt F) ((stM.access (quarterR b)).write (Elt F) f (sumsV m c b) Finset.univ) (sumsV m c b') Finset.univ i
        = statF m c i := by
  intro i hi
  by_cases h1 : i ∈ (quarterR b').set
  · exact st_store_on m c b' _ i h1
  · rw [st_store_off m c b' _ i h1]
    refine st_store_on m c b _ i ?_
    rw [mem_quarterR] at h1 ⊢
    rw [mem_statR] at hi
    have : ((0 : Fin 16).val) = 0 := rfl
    omega

theorem keep_store (c : Dev nD) (b : Fin 4) (f : (cc0_scratch1 : Ref sig .tc).ty.Contents (Elt F)) :
    ∀ i ∈ (rowR b).set, (keepM.access (rowR b)).write (Elt F) f (keepV m c b) Finset.univ i = keepF m c i := by
  intro i hi
  obtain ⟨y, rfl⟩ := View.exists_emb_of_mem_set (keepM.access (rowR b)) ((keepAccess_set b).symm ▸ hi)
  obtain ⟨x, z, rfl⟩ : ∃ x z : Fin 1024, y = ix2 x z := ⟨y 0, y 1, eq_ix2 y⟩
  rw [View.write_emb_of_mem _ _ (Finset.mem_univ _)]
  show keepV m c b (ix2 x z) = keepF m c ((rowR b).emb (ix2 x z))
  refine Eq.trans ?_ (congrArg (keepF m c) (rowR_emb b x z)).symm
  show _ = keepV m c (blkOf (rowAt b x).val) (ix2 (offOf (rowAt b x).val) z)
  rw [blkOf_rowAt, offOf_rowAt]

theorem out_store (c : Dev nD) (b : Fin 4) (s : Fin 2) (f : (cc0_scratch2 : Ref sig .tc).ty.Contents (Elt F)) :
    ∀ i ∈ (bufR s).set, (outM.access (bufR s)).write (Elt F) f (outV m c b) Finset.univ i = outSlotF m c b i := by
  intro i hi
  obtain ⟨y, rfl⟩ := View.exists_emb_of_mem_set (outM.access (bufR s)) ((outAccess_set s).symm ▸ hi)
  obtain ⟨w, x, z, rfl⟩ : ∃ (w : Fin 1) (x : Fin 1024) (z : Fin 1024), y = ix3 w x z := ⟨y 0, y 1, y 2, eq_ix3 y⟩
  rw [View.write_emb_of_mem _ _ (Finset.mem_univ _)]
  show outV m c b (ix3 w x z) = outSlotF m c b ((bufR s).emb (ix3 w x z))
  refine Eq.trans ?_ (congrArg (outSlotF m c b) (bufR_emb s w x z)).symm
  show _ = outV m c b (ix3 0 x z)
  congr 2
  exact Subsingleton.elim (α := Fin 1) _ _

/-! ## Loads -/

theorem in_load (c : Dev nD) (b : Fin 4) (s : Fin 2) : inM.view.readAt (Elt F) (bufR s).toLoadRect (inF m c b) = inV m c b := by
  rw [View.readAt_rect]
  funext y
  rw [View.read_apply]
  show inF m c b ((bufR s).emb y) = _
  conv_lhs => rw [eq_ix3 y]
  exact congrArg (inF m c b) (bufR_emb s (y 0) (y 1) (y 2))

theorem keep_load (c : Dev nD) (b : Fin 4) : keepM.view.readAt (Elt F) (rowR b).toLoadRect (keepF m c) = keepV m c b := by
  rw [View.readAt_rect]
  funext y
  rw [View.read_apply]
  show keepF m c ((rowR b).emb y) = _
  obtain ⟨x, z, rfl⟩ : ∃ x z : Fin 1024, y = ix2 x z := ⟨y 0, y 1, eq_ix2 y⟩
  refine (congrArg (keepF m c) (rowR_emb b x z)).trans ?_
  show keepV m c (blkOf (rowAt b x).val) (ix2 (offOf (rowAt b x).val) z) = _
  rw [blkOf_rowAt, offOf_rowAt]

theorem zeros2 : (![0, 0] : Fin 2 → Nat) = fun _ => 0 := funext fun a => by fin_cases a <;> rfl

theorem gamma_load (f : (cc0_stg0_0 : Ref sig .tc).ty.Contents (Elt F)) :
    gM.view.readAt (Elt F) (Rect.unit (s := S1x1024) ![0, 0] S1x1024.size inb_S1x1024_S1x1024_0_0).toLoadRect f = f :=
  Memref.readAt_unit_zero (Elt F) cc0_stg0_0 zeros2 _ f
theorem beta_load (f : (cc0_stg1_0 : Ref sig .tc).ty.Contents (Elt F)) :
    bM.view.readAt (Elt F) (Rect.unit (s := S1x1024) ![0, 0] S1x1024.size inb_S1x1024_S1x1024_0_0).toLoadRect f = f :=
  Memref.readAt_unit_zero (Elt F) cc0_stg1_0 zeros2 _ f

end Cert.KernelIdeal.Norm

end
-- ==== Proof.Steps.lean ====
/-
  The steps of the kernel's body between devices, one rule for each kind: a signal, the barrier wait, a send,
  the wait for a send, the wait for an arrival. Each is stated for a place in the order of the body, so that
  the same rule runs all fifteen of a kind.
-/
module

public import proofs.«01_k».proof.Proof.Protocol
public import proofs.«01_k».proof.Proof.Pieces

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

abbrev 𝒱₀ : Variants := Variants.none

/-- Device `c` runs `p` to a state of which `Q` holds. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def Owing (c : Dev nD) (O : CellTallies nD τ sig Unit) : sProp 𝕄 := iprop(∃ W, owes (c : Thread nD τ) O W)

theorem peel (e : Fin 15) (Φ : Fin 15 → sProp 𝕄) : bigSep (since e.val) Φ = iprop(Φ e ∗ bigSep (since (e.val + 1)) Φ) := by
  rw [since_peel]; exact bigSep_insert (not_mem_since e)
theorem push (e : Fin 15) (Φ : Fin 15 → sProp 𝕄) : bigSep (until' (e.val + 1)) Φ = iprop(Φ e ∗ bigSep (until' e.val) Φ) := by
  rw [until_push]; exact bigSep_insert (not_mem_until e)

/-! ## The barrier -/

/-- What the signals from the `n`-th on use up: their duties and the device's own slots. -/
def Signals (c : Dev nD) (n : ℕ) : sProp 𝕄 :=
  bigSep (since n) fun e => iprop(dutyTok ER (cell (peer c e) none) 0 e.rev ∗ barPay (peer c e) e.rev)

theorem signal_step (c n : Dev nD) (e : Fin 15) (hn : n = peer c e) (O : CellTallies nD τ sig Unit) {k' : ℕ} (hk : k' = 1)
    {α : Type} {Q : α → sProp 𝕄} {k : PUnit → Prog (TpuEff nD τ sig (Elt F) Λ₀ .tc) α} :
    iprop(env m K ∗ Owing c (O + owesBar c e.val) ∗ Signals c e.val)
      ⊢ iprop((Owing c (O + owesBar c (e.val + 1)) ∗ Signals c (e.val + 1) -∗ Runs c (k ⟨⟩) Q)
          -∗ Runs c (.op (.semSignal (n : Thread nD τ) barS k') k) Q) := by
  subst hn; subst hk
  unfold Owing Signals
  rw [peel, owesBar_peel, ← add_assoc]
  iintro ⟨#He, ⟨%W, HO⟩, ⟨Ht, Hp⟩, Hrest⟩ Hk
  iapply (Rounds.wp_signal 𝒱₀ ER (sched m) (c : Thread nD τ) none (dst := (peer c e : Thread nD τ)) (κ := K (peer c e, none))
      (d := e.rev) (by rw [duties_cell m (peer c e) none]; exact Finset.mem_univ _) (amount_cell m (peer c e) none e.rev) () (O + owesBar c (e.val + 1)) rfl)
    $$ [HO Ht Hp]
  · isplitr; · iapply (env_inv m K (peer c e) none); iexact He
    isplitl [HO]; · iexact HO
    isplitl [Ht]; · iexact Ht
    isplitl [Hp]; · rw [payload_bar m (peer c e)]; iexact Hp
    iapply (env_reached m K (peer c e) none); iexact He
  iintro HO
  iapply Hk
  isplitl [HO]; · iexists W; iexact HO
  iexact Hrest

theorem bar_wait_step (c : Dev nD) (O : CellTallies nD τ sig Unit) (hO : Above 1 O) {k' : ℕ} (hk : k' = 15)
    {α : Type} {Q : α → sProp 𝕄} {k : PUnit → Prog (TpuEff nD τ sig (Elt F) Λ₀ .tc) α} :
    iprop(env m K ∗ Owing c O ∗ cred (tallyAt (cell c none) () 15) ∗ atPos ER (cell c none) 0 ∅ 0)
      ⊢ iprop((Owing c O ∗ (bigSep Finset.univ fun d => barPay c d) ∗ semVal (cell c none) 0 -∗ Runs c (k ⟨⟩) Q)
          -∗ Runs c (.op (.semWait barS k') k) Q) := by
  subst hk
  unfold Owing
  iintro ⟨#He, ⟨%W, HO⟩, Hc, Ha⟩ Hk
  iapply (Rounds.wp_wait_rest_token 𝒱₀ ER (sched m) (c : Thread nD τ) none (κ := K (c, none))
      (wpE_semWait_eq 𝒱₀ (c : Thread nD τ) none Set.univ) (Set.mem_univ _) () (O := O) (W := W) (R := 0) (m := 0) (T := ∅)
      (by rw [expect_bar m c])) $$ [Hc HO Ha]
  · isplitr; · iapply (env_inv m K c none); iexact He
    isplitl [Hc]; · iexact Hc
    isplitl [HO]; · iexact HO
    isplitr
    · iapply (env_wait_bar m K c O hO); iexact He
    iexact Ha
  iintro ⟨HO, Ha, -, Hp⟩
  ihave Hp := (Entails.of_eq (show _ = bigSep Finset.univ fun d => barPay c d from rest_cell m c none)) $$ Hp
  imod (Rounds.cell_close ER (sched m) (Set.mem_univ (K (c, none))) (fun h => h) (R := 0 + 1) (duties_later m (cell c none))) $$ [Ha] with Hz
  · isplitr; · iapply (env_inv m K c none); iexact He
    iexact Ha
  iapply Hk
  isplitl [HO]; · iexists _; iexact HO
  isplitl [Hp]; · iexact Hp
  iexact Hz

/-! ## The sends -/

/-- What the send of half `h` to the device `e + 1` places on uses up. -/
def sendUse (c : Dev nD) (h : Fin 2) (e : Fin 15) : sProp 𝕄 :=
  iprop(dutyTok ER (cell c (some (false, h, e))) 0 0 ∗ dutyTok ER (cell (peer c e) (some (true, h, e))) 0 0)

/-- The sends of half `h` from the `n`-th on still to be issued, the earlier ones in flight. -/
def Sends (c : Dev nD) (h : Fin 2) (n : ℕ) : sProp 𝕄 :=
  iprop((bigSep (since n) fun e => iprop(sendUse c h e ∗ sendPay m c h e ∗ ∃ f, statPts (peer c e) e.succ h fullShare f))
    ∗ bigSep (until' n) fun e => cred (tallyAt (cell c (some (false, h, e))) () N))

theorem send_step (c n : Dev nD) (h : Fin 2) (e : Fin 15) (hn : n = peer c e) (O : CellTallies nD τ sig Unit)
    {hsc : (statSlot e.succ h : Memref sig (Dev.tc n : Thread nD τ).2.kind .vmem S2x2048 .f32).view.ref.isScScratch = false}
    {hsrc : (statSlot 0 h).view.WordExact} {hdst : (statSlot e.succ h).view.WordExact}
    {hsem : DmaTarget.Typed .vmem (.dma (recvS h e)) (.remote (Dev.tc n : Thread nD τ) (statSlot e.succ h) (.dma (sendS h e)) hsc)}
    {α : Type} {Q : α → sProp 𝕄} {k : PUnit → Prog (TpuEff nD τ sig (Elt F) Λ₀ .tc) α} :
    iprop(env m K ∗ Owing c (O + owesHalf c h e.val) ∗ Sends m c h e.val)
      ⊢ iprop((Owing c (O + owesHalf c h (e.val + 1)) ∗ Sends m c h (e.val + 1) -∗ Runs c (k ⟨⟩) Q)
          -∗ Runs c (.op (.enqueueDma (statSlot 0 h) (.remote (Dev.tc n : Thread nD τ) (statSlot e.succ h) (.dma (sendS h e)) hsc)
                (.dma (recvS h e)) hsrc hdst hsem) k) Q) := by
  subst hn
  unfold Owing Sends sendUse
  rw [peel, owesHalf_peel, ← add_assoc, push]
  unfold sendPay statPts
  iintro ⟨#He, ⟨%W, HO⟩, ⟨⟨⟨Ht₁, Ht₂⟩, Hs, ⟨%fd, Hd⟩⟩, Hrest⟩, Hfl⟩ Hk
  iapply (Rounds.wp_send_pointsTo 𝒱₀ ER (sched m) (c : Thread nD τ) none (κ₁ := K (c, some (false, h, e))) (κ₂ := K (peer c e, some (true, h, e)))
      (c' := (peer c e : Thread nD τ)) (q := part e) (fs := statF m c)
      (r₁ := 0) (r₂ := 0) (d₁ := 0) (d₂ := 0) (fd := fd)
      (by rw [duties_cell m c (some (false, h, e))]; exact Finset.mem_singleton_self _)
      (by rw [duties_cell m (peer c e) (some (true, h, e))]; exact Finset.mem_singleton_self _)
      () () N (amount_stat e.succ h (recvS h e)) (amount_cell m c (some (false, h, e)) 0) (amount_cell m (peer c e) (some (true, h, e)) 0) (O + owesHalf c h (e.val + 1)) rfl (W := W)
      (by rw [payload_send m c h e, statSlot_set]; unfold sendPay statPts; exact BI.Entails.refl _)
      (by
        rw [payload_recv m (peer c e) h e, statSlot_set]; unfold recvPay statPts
        exact Entails.of_eq (pointsTo_congr (land_eq m c h e fd)))) $$ [HO Ht₁ Ht₂ Hs Hd]
  · isplitr; · iapply (env_inv m K c (some (false, h, e))); iexact He
    isplitr; · iapply (env_inv m K (peer c e) (some (true, h, e))); iexact He
    isplitl [Hs]; · rw [statSlot_set]; iexact Hs
    isplitl [Hd]; · rw [statSlot_set]; iexact Hd
    isplitl [HO]; · iexact HO
    isplitl [Ht₁]; · iexact Ht₁
    isplitr; · iapply (env_reached m K c (some (false, h, e))); iexact He
    isplitl [Ht₂]; · iexact Ht₂
    iapply (env_reached m K (peer c e) (some (true, h, e))); iexact He
  iintro ⟨Hc, HO⟩
  iapply Hk
  isplitl [HO]; · iexists W; iexact HO
  isplitl [Hrest]; · iexact Hrest
  isplitl [Hc]; · iexact Hc
  iexact Hfl

/-! ## The waits -/

/-- The waits of half `h` on one end of the transfers: from the `n`-th on still to come, the earlier ones made, with
    what they brought and their semaphores back at zero. -/
def Waits' (c : Dev nD) (d : Bool) (h : Fin 2) (n : ℕ) : sProp 𝕄 :=
  iprop((bigSep (since n) fun e => iprop(cred (tallyAt (cell c (some (d, h, e))) () N) ∗ atPos ER (cell c (some (d, h, e))) 0 ∅ 0))
    ∗ bigSep (until' n) fun e => iprop(restOf m c (some (d, h, e)) ∗ semVal (cell c (some (d, h, e))) 0))

theorem wait_step (c : Dev nD) (d : Bool) (h : Fin 2) (e : Fin 15) {s s' : Shape} {t t' : EltTy} {sp sp' : Space} {q : DmaSem sig}
    (hq : SemLoc.dma q = keySem (some (d, h, e)))
    {src : Memref sig .tc sp s t} {dst : Memref sig .tc sp' s' t'} (hN : dst.view.dmaCredit = N)
    {hsrc : src.view.WordExact} {hdst : dst.view.WordExact}
    {α : Type} {Q : α → sProp 𝕄} {k : PUnit → Prog (TpuEff nD τ sig (Elt F) Λ₀ .tc) α} :
    iprop(env m K ∗ Owing c 0 ∗ Waits' m c d h e.val)
      ⊢ iprop((Owing c 0 ∗ Waits' m c d h (e.val + 1) -∗ Runs c (k ⟨⟩) Q)
          -∗ Runs c (.op (.waitDma2 q src dst hsrc hdst) k) Q) := by
  unfold Owing Waits'
  rw [peel, push]
  iintro ⟨#He, ⟨%W, HO⟩, ⟨⟨Hc, Ha⟩, Hrest⟩, Hdone⟩ Hk
  iapply (Rounds.wp_wait_rest_token 𝒱₀ ER (sched m) (c : Thread nD τ) none (κ := K (c, some (d, h, e))) (sm := keySem (some (d, h, e))) (k' := N)
      (fun Kt => by rw [← hq, ← hN]; exact wpE_waitDma2_eq 𝒱₀ (c : Thread nD τ) none Set.univ Kt) (Set.mem_univ _) () (O := 0) (W := W) (R := 0) (m := 0) (T := ∅)
      (by rw [Nat.zero_add]; exact (expect_xfer m c (d, h, e)).symm)) $$ [Hc HO Ha]
  · isplitr; · iapply (env_inv m K c (some (d, h, e))); iexact He
    isplitl [Hc]; · iexact Hc
    isplitl [HO]; · iexact HO
    isplitr; · rw [MayWait_zero]; iempintro
    iexact Ha
  iintro ⟨HO, Ha, -, Hp⟩
  ihave Hp := (Entails.of_eq (rest_cell m c (some (d, h, e)))) $$ Hp
  imod (Rounds.cell_close ER (sched m) (Set.mem_univ (K (c, some (d, h, e)))) (fun h => h) (R := 0 + 1) (duties_later m (cell c (some (d, h, e))))) $$ [Ha] with Hz
  · isplitr; · iapply (env_inv m K c (some (d, h, e))); iexact He
    iexact Ha
  iapply Hk
  isplitl [HO]; · iexists _; iexact HO
  isplitl [Hrest]; · iexact Hrest
  isplitl [Hp Hz]
  · isplitl [Hp] <;> iassumption
  iexact Hdone

/-! ## The states the steps run between -/

/-- The first `n` signals sent, `O` owed besides the rest of them. -/
def SigSt (c : Dev nD) (O : CellTallies nD τ sig Unit) (n : ℕ) : sProp 𝕄 :=
  iprop(env m K ∗ Owing c (O + owesBar c n) ∗ Signals c n)
/-- The first `n` sends of half `h` issued, `O` owed besides the rest of them. -/
def SendSt (c : Dev nD) (h : Fin 2) (O : CellTallies nD τ sig Unit) (n : ℕ) : sProp 𝕄 :=
  iprop(env m K ∗ Owing c (O + owesHalf c h n) ∗ Sends m c h n)
/-- The first `n` sends and the first `n'` arrivals of half `h` waited for. -/
def WaitSt (c : Dev nD) (h : Fin 2) (n n' : ℕ) : sProp 𝕄 :=
  iprop(env m K ∗ Owing c 0 ∗ Waits' m c false h n ∗ Waits' m c true h n')

/-- A device computed as so many places on is the one at that distance. -/
theorem at_peer {c : Dev nD} {v k : ℕ} (e : Fin 15) (lt : v < nD) (h : v = (c.val + k) % 16) (hk : k = e.val + 1) :
    (⟨v, lt⟩ : Dev nD) = peer c e := by subst hk; exact Fin.ext h

theorem sig_run (c n : Dev nD) (e : Fin 15) (i j : ℕ) (hi : i = e.val) (hj : j = e.val + 1) (hn : n = peer c e) (O : CellTallies nD τ sig Unit) {k' : ℕ} (hk : k' = 1)
    {α : Type} {Q : α → sProp 𝕄} {k : PUnit → Prog (TpuEff nD τ sig (Elt F) Λ₀ .tc) α} :
    SigSt m K c O i
      ⊢ iprop((SigSt m K c O j -∗ Runs c (k ⟨⟩) Q) -∗ Runs c (.op (.semSignal (n : Thread nD τ) barS k') k) Q) := by
  subst hi hj
  unfold SigSt
  iintro ⟨#He, H⟩ Hk
  iapply (signal_step m K c n e hn O hk) $$ [H]
  · isplitr; · iexact He
    iexact H
  iintro H
  iapply Hk
  isplitr; · iexact He
  iexact H

theorem send_run (c n : Dev nD) (h : Fin 2) (e : Fin 15) (i j : ℕ) (hi : i = e.val) (hj : j = e.val + 1) (hn : n = peer c e) (O : CellTallies nD τ sig Unit)
    {hsc : (statSlot e.succ h : Memref sig (Dev.tc n : Thread nD τ).2.kind .vmem S2x2048 .f32).view.ref.isScScratch = false}
    {hsrc : (statSlot 0 h).view.WordExact} {hdst : (statSlot e.succ h).view.WordExact}
    {hsem : DmaTarget.Typed .vmem (.dma (recvS h e)) (.remote (Dev.tc n : Thread nD τ) (statSlot e.succ h) (.dma (sendS h e)) hsc)}
    {α : Type} {Q : α → sProp 𝕄} {k : PUnit → Prog (TpuEff nD τ sig (Elt F) Λ₀ .tc) α} :
    SendSt m K c h O i
      ⊢ iprop((SendSt m K c h O j -∗ Runs c (k ⟨⟩) Q)
          -∗ Runs c (.op (.enqueueDma (statSlot 0 h) (.remote (Dev.tc n : Thread nD τ) (statSlot e.succ h) (.dma (sendS h e)) hsc)
                (.dma (recvS h e)) hsrc hdst hsem) k) Q) := by
  subst hi hj
  unfold SendSt
  iintro ⟨#He, H⟩ Hk
  iapply (send_step m K c n h e hn O) $$ [H]
  · isplitr; · iexact He
    iexact H
  iintro H
  iapply Hk
  isplitr; · iexact He
  iexact H

theorem sent_run (c : Dev nD) (h : Fin 2) (e : Fin 15) (i j : ℕ) (hi : i = e.val) (hj : j = e.val + 1) (n' : ℕ)
    {hsrc : (statSlot e.succ h).view.WordExact} {hdst : (statSlot 0 h).view.WordExact}
    {α : Type} {Q : α → sProp 𝕄} {k : PUnit → Prog (TpuEff nD τ sig (Elt F) Λ₀ .tc) α} :
    WaitSt m K c h i n'
      ⊢ iprop((WaitSt m K c h j n' -∗ Runs c (k ⟨⟩) Q)
          -∗ Runs c (.op (.waitDma2 (sendS h e) (statSlot e.succ h) (statSlot 0 h) hsrc hdst) k) Q) := by
  subst hi hj
  unfold WaitSt
  iintro ⟨#He, HO, H, H'⟩ Hk
  iapply (wait_step m K c false h e rfl (credit_stat 0 h)) $$ [HO H]
  · isplitr; · iexact He
    isplitl [HO] <;> iassumption
  iintro ⟨HO, H⟩
  iapply Hk
  isplitr; · iexact He
  isplitl [HO]; · iexact HO
  isplitl [H] <;> iassumption

theorem came_run (c : Dev nD) (h : Fin 2) (e : Fin 15) (i j : ℕ) (hi : i = e.val) (hj : j = e.val + 1) (n : ℕ)
    {hsrc : (statSlot 0 h).view.WordExact} {hdst : (statSlot e.succ h).view.WordExact}
    {α : Type} {Q : α → sProp 𝕄} {k : PUnit → Prog (TpuEff nD τ sig (Elt F) Λ₀ .tc) α} :
    WaitSt m K c h n i
      ⊢ iprop((WaitSt m K c h n j -∗ Runs c (k ⟨⟩) Q)
          -∗ Runs c (.op (.waitDma2 (recvS h e) (statSlot 0 h) (statSlot e.succ h) hsrc hdst) k) Q) := by
  subst hi hj
  unfold WaitSt
  iintro ⟨#He, HO, H, H'⟩ Hk
  iapply (wait_step m K c true h e rfl (credit_stat e.succ h)) $$ [HO H']
  · isplitr; · iexact He
    isplitl [HO] <;> iassumption
  iintro ⟨HO, H'⟩
  iapply Hk
  isplitr; · iexact He
  isplitl [HO]; · iexact HO
  isplitl [H] <;> iassumption

end Cert.KernelIdeal.Norm

end
-- ==== Proof.Local.lean ====
/-
  The steps of the kernel's body within a device, one rule for each kind: a block of the input into a slot of
  the double buffer, its wait, its statistics and its narrowed copy stored; a block of the result into a slot,
  out of it, its wait; and the reads. Each holds just the piece of a buffer it touches.
-/
module

public import proofs.«01_k».proof.Proof.Steps

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

/-! ## The pieces -/

def xPts (c : Dev nD) (b : Fin 4) : sProp 𝕄 := ((c : Thread nD τ).loc main_arg0) ↦[(rowR b).set]{fullShare} (xOf m c)
def yPts (c : Dev nD) (b : Fin 4) (f : Buf (Elt F) ((c : Thread nD τ).loc main_v1)) : sProp 𝕄 :=
  ((c : Thread nD τ).loc main_v1) ↦[(rowR b).set]{fullShare} f
def inPts (c : Dev nD) (s : Fin 2) (f : Buf (Elt F) ((c : Thread nD τ).loc cc0_scratch0)) : sProp 𝕄 :=
  ((c : Thread nD τ).loc cc0_scratch0) ↦[(bufR s).set]{fullShare} f
def keepPts (c : Dev nD) (b : Fin 4) (f : Buf (Elt F) ((c : Thread nD τ).loc cc0_scratch1)) : sProp 𝕄 :=
  ((c : Thread nD τ).loc cc0_scratch1) ↦[(rowR b).set]{fullShare} f
def outPts (c : Dev nD) (s : Fin 2) (f : Buf (Elt F) ((c : Thread nD τ).loc cc0_scratch2)) : sProp 𝕄 :=
  ((c : Thread nD τ).loc cc0_scratch2) ↦[(bufR s).set]{fullShare} f

/-- What a transfer of a block into a slot credits, and of a block out of one. -/
def Nin : ℕ := (inSlot 0).view.dmaCredit
def Nout : ℕ := (yRow 0).view.dmaCredit
theorem Nin_pos : 0 < Nin := View.dmaCredit_pos _ (by decide)
theorem Nout_pos : 0 < Nout := View.dmaCredit_pos _ (by decide)
theorem amount_in (s : Fin 2) (q : DmaSem sig) : (inSlot s).view.amount (.dma q) = Nin := rfl
theorem amount_out (b : Fin 4) (q : DmaSem sig) : (yRow b).view.amount (.dma q) = Nout := rfl
theorem credit_in (s : Fin 2) : (inSlot s).view.dmaCredit = Nin := rfl
theorem credit_out (b : Fin 4) : (yRow b).view.dmaCredit = Nout := rfl

/-- A rectangle's elements under a whole buffer's view are its own. -/
theorem whole_on (b : Ref sig .tc) (r : Rect b.ty.shape) : (Memref.whole b).view.setOn r.set = r.set :=
  (View.set_slice (View.whole b) r).symm.trans (View.set_slice_whole b r)
theorem inM_on (s : Fin 2) : inM.view.setOn (bufR s).set ⊆ (bufR s).set := (whole_on cc0_scratch0 (bufR s)).le
theorem outM_on (s : Fin 2) : outM.view.setOn (bufR s).set ⊆ (bufR s).set := (whole_on cc0_scratch2 (bufR s)).le
theorem keepM_on (b : Fin 4) : keepM.view.setOn (rowR b).set ⊆ (rowR b).set := (whole_on cc0_scratch1 (rowR b)).le
theorem stM_on (h : Fin 2) : stM.view.setOn (halfR h).set ⊆ (halfR h).set := (whole_on cc0_scratch3 (halfR h)).le
theorem quarter_on (h : Fin 2) (b : Fin 4) (hb : b.val / 2 = h.val) : stM.view.setOn (quarterR b).set ⊆ (statR 0 h).set :=
  (whole_on cc0_scratch3 (quarterR b)).le.trans (quarter_sub h b hb)
theorem quarter_acc (h : Fin 2) (b : Fin 4) (hb : b.val / 2 = h.val) : (stM.access (quarterR b)).setOn Finset.univ ⊆ (statR 0 h).set := by
  rw [View.setOn_univ, stAccess_set]; exact quarter_sub h b hb
theorem keep_acc (b : Fin 4) : (keepM.access (rowR b)).setOn Finset.univ ⊆ (rowR b).set := by
  rw [View.setOn_univ, keepAccess_set]
theorem out_acc (s : Fin 2) : (outM.access (bufR s)).setOn Finset.univ ⊆ (bufR s).set := by
  rw [View.setOn_univ, outAccess_set]

/-! ## Blocks coming in -/

/-- A slot of the incoming buffer with nothing in it, and with block `b` in it; in either nothing is in flight. -/
def InIdle (c : Dev nD) (s : Fin 2) : sProp 𝕄 := iprop((∃ f, inPts c s f) ∗ semVal ((c : Thread nD τ), .dma (inS s)) 0)
def InHeld (c : Dev nD) (b : Fin 4) (s : Fin 2) : sProp 𝕄 :=
  iprop(inPts c s (inF m c b) ∗ semVal ((c : Thread nD τ), .dma (inS s)) 0)
/-- Block `b` on its way into slot `s`. -/
def InFlight (c : Dev nD) (b : Fin 4) (s : Fin 2) : sProp 𝕄 :=
  Transfers.Flight EC (c : Thread nD τ) (.dma (inS s)) () Nin iprop(inPts c s (inF m c b) ∗ xPts m c b)

theorem in_idle (c : Dev nD) (b : Fin 4) (s : Fin 2) : InHeld m c b s ⊢ InIdle c s := by
  unfold InHeld InIdle
  iintro ⟨H, Hv⟩
  isplitl [H]; · iexists _; iexact H
  iexact Hv

theorem in_start (c : Dev nD) (b : Fin 4) (s : Fin 2)
    {hsrc : (xRow b).view.WordExact} {hdst : (inSlot s).view.WordExact}
    {hsem : (DmaTarget.here (inSlot s) : DmaTarget nD τ sig .tc .vmem S1024x1024 .f32).Typed .hbm (.dma (inS s))}
    {α : Type} {Q : α → sProp 𝕄} {k : PUnit → Prog (TpuEff nD τ sig (Elt F) Λ₀ .tc) α} :
    iprop(InIdle c s ∗ xPts m c b)
      ⊢ iprop((InFlight m c b s -∗ Runs c (k ⟨⟩) Q)
          -∗ Runs c (.op (.enqueueDma (xRow b) (.here (inSlot s)) (.dma (inS s)) hsrc hdst hsem) k) Q) := by
  unfold InIdle InFlight inPts xPts
  iintro ⟨⟨⟨%fd, Hd⟩, Hv⟩, Hx⟩ Hk
  iapply (Transfers.wp_dmaLocal EC 𝒱₀ (c : Thread nD τ) none (src := xRow b) (dst := inSlot s) (q := fullShare) (fs := xOf m c) (fd := fd)
      (Sd := (bufR s).set) () Nin (amount_in s (inS s)) Nin_pos (by rw [inSlot_set])) $$ [Hx Hd Hv]
  · isplitl [Hx]; · rw [xRow_set]; iexact Hx
    isplitl [Hd]; · iexact Hd
    iexact Hv
  iintro Hf
  iapply Hk
  iapply (Transfers.Flight_mono EC (c : Thread nD τ) ?h) $$ Hf
  case h =>
    rw [xRow_set]
    exact sep_mono_left (Entails.of_eq (pointsTo_congr (in_eq m c b s fd)))

theorem in_wait (c : Dev nD) (b : Fin 4) (s : Fin 2) (O : CellTallies nD τ sig Unit) (hO : Above 0 O)
    {sp : Space} {s' : Shape} {e' : EltTy} {src : Memref sig .tc sp s' e'}
    {hsrc : src.view.WordExact} {hdst : (inSlot s).view.WordExact}
    {α : Type} {Q : α → sProp 𝕄} {k : PUnit → Prog (TpuEff nD τ sig (Elt F) Λ₀ .tc) α} :
    iprop(env m K ∗ Owing c O ∗ InFlight m c b s)
      ⊢ iprop((Owing c O ∗ InHeld m c b s ∗ xPts m c b -∗ Runs c (k ⟨⟩) Q)
          -∗ Runs c (.op (.waitDma2 (inS s) src (inSlot s) hsrc hdst) k) Q) := by
  unfold Owing InFlight InHeld
  iintro ⟨#He, ⟨%W, HO⟩, Hf⟩ Hk
  iapply (Transfers.wp_waitLocalO EC 𝒱₀ (c : Thread nD τ) none () (credit_in s)) $$ [Hf HO]
  · isplitl [Hf]; · iexact Hf
    isplitl [HO]; · iexact HO
    iapply (env_wait m K c (.dma (inS s)) O (by rw [keyOf_in]; exact hO)); iexact He
  iintro ⟨⟨Hi, Hx⟩, Hv, HO⟩
  iapply Hk
  isplitl [HO]; · iexists _; iexact HO
  isplitr [Hx]
  · isplitl [Hi] <;> iassumption
  iexact Hx

theorem in_read (c : Dev nD) (b : Fin 4) (s : Fin 2) {hl : inM.view.LoadsAt (bufR s).toLoadRect}
    {α : Type} {Q : α → sProp 𝕄} {k : (S1x1024x1024.Idx → Elt F .f32) → Prog (TpuEff nD τ sig (Elt F) Λ₀ .tc) α} :
    InHeld m c b s
      ⊢ iprop((InHeld m c b s -∗ Runs c (k (inV m c b)) Q)
          -∗ Runs c (.op (.load inM (bufR s).toLoadRect hl) k) Q) := by
  unfold InHeld inPts
  iintro ⟨H, Hv⟩ Hk
  iapply (wp_load 𝒱₀ (c : Thread nD τ) none Set.univ (m := inM) (S := (bufR s).set) (f := inF m c b) (inM_on s)) $$ H
  iintro H
  rw [in_load]
  iapply Hk
  isplitl [H] <;> iassumption

/-! ## A block's statistics and narrowed copy -/

/-- Half `h` of the device's own slot with block `b`'s statistics written over `f`. -/
abbrev stored (c : Dev nD) (b : Fin 4) (f : (cc0_scratch3 : Ref sig .tc).ty.Contents (Elt F)) : (cc0_scratch3 : Ref sig .tc).ty.Contents (Elt F) :=
  (stM.access (quarterR b)).write (Elt F) f (sumsV m c b) Finset.univ

theorem block_step (c : Dev nD) (b : Fin 4) (h : Fin 2) (hb : b.val / 2 = h.val) {w₁ : Vec F S1x2x1024 .f32} {w₂ : Vec F S1024x1024 .bf16}
    (h₁ : w₁ = sumsV m c b) (h₂ : w₂ = keepV m c b) (f : Buf (Elt F) ((c : Thread nD τ).loc cc0_scratch3))
    {hl₁ : stM.view.LoadsAt (quarterR b).toLoadRect} {hl₂ : keepM.view.LoadsAt (rowR b).toLoadRect}
    {hx₁ : (stM.access (quarterR b)).Stores Finset.univ} {hm₁ : Finset.univ = Finset.univ ∨ ∀ a, (quarterR b).stride a = 1}
    {hx₂ : (keepM.access (rowR b)).Stores Finset.univ} {hm₂ : Finset.univ = Finset.univ ∨ ∀ a, (rowR b).stride a = 1}
    {α : Type} {Q : α → sProp 𝕄} {k : PUnit → Prog (TpuEff nD τ sig (Elt F) Λ₀ .tc) α} :
    iprop(statPts c 0 h fullShare f ∗ ∃ g, keepPts c b g)
      ⊢ iprop((statPts c 0 h fullShare (stored m c b f) ∗ keepPts c b (keepF m c) -∗ Runs c (k ⟨⟩) Q)
          -∗ Runs c (.op (.load stM (quarterR b).toLoadRect hl₁) fun _ => .op (.store stM (quarterR b) w₁ Finset.univ hx₁ hm₁) fun _ =>
              .op (.load keepM (rowR b).toLoadRect hl₂) fun _ => .op (.store keepM (rowR b) w₂ Finset.univ hx₂ hm₂) k) Q) := by
  subst h₁ h₂
  unfold statPts keepPts
  iintro ⟨Hs, ⟨%g, Hg⟩⟩ Hk
  iapply (wp_load 𝒱₀ (c : Thread nD τ) none Set.univ (m := stM) (S := (statR 0 h).set) (f := f) (quarter_on h b hb)) $$ Hs
  iintro Hs
  iapply (wp_store 𝒱₀ (c : Thread nD τ) none Set.univ (m := stM) (r := quarterR b) (Mk := Finset.univ) (S := (statR 0 h).set) (f := f)
    (quarter_acc h b hb)) $$ Hs
  iintro Hs
  iapply (wp_load 𝒱₀ (c : Thread nD τ) none Set.univ (m := keepM) (S := (rowR b).set) (f := g) (keepM_on b)) $$ Hg
  iintro Hg
  iapply (wp_store 𝒱₀ (c : Thread nD τ) none Set.univ (m := keepM) (r := rowR b) (Mk := Finset.univ) (S := (rowR b).set) (f := g)
    (keep_acc b)) $$ Hg
  iintro Hg
  ihave Hg := (Entails.of_eq (pointsTo_congr (keep_store m c b g))) $$ Hg
  iapply Hk
  isplitl [Hs] <;> iassumption

theorem keep_read (c : Dev nD) (b : Fin 4) {hl : keepM.view.LoadsAt (rowR b).toLoadRect}
    {α : Type} {Q : α → sProp 𝕄} {k : (S1024x1024.Idx → Elt F .bf16) → Prog (TpuEff nD τ sig (Elt F) Λ₀ .tc) α} :
    keepPts c b (keepF m c)
      ⊢ iprop((keepPts c b (keepF m c) -∗ Runs c (k (keepV m c b)) Q)
          -∗ Runs c (.op (.load keepM (rowR b).toLoadRect hl) k) Q) := by
  unfold keepPts
  iintro H Hk
  iapply (wp_load 𝒱₀ (c : Thread nD τ) none Set.univ (m := keepM) (S := (rowR b).set) (f := keepF m c) (keepM_on b)) $$ H
  iintro H
  rw [keep_load]
  iapply Hk; iexact H

/-- All sixteen slots' half `h`, each holding what it is to hold. -/
def halfPts (c : Dev nD) (h : Fin 2) : sProp 𝕄 := ((c : Thread nD τ).loc cc0_scratch3) ↦[(halfR h).set]{fullShare} (statF m c)

theorem half_read (c : Dev nD) (h : Fin 2) {hl : stM.view.LoadsAt (halfR h).toLoadRect}
    {α : Type} {Q : α → sProp 𝕄} {k : (S16x2x2048.Idx → Elt F .f32) → Prog (TpuEff nD τ sig (Elt F) Λ₀ .tc) α} :
    halfPts m c h
      ⊢ iprop((halfPts m c h -∗ Runs c (k (halfV m c h)) Q)
          -∗ Runs c (.op (.load stM (halfR h).toLoadRect hl) k) Q) := by
  unfold halfPts
  exact wp_load 𝒱₀ (c : Thread nD τ) none Set.univ (m := stM) (S := (halfR h).set) (f := statF m c) (stM_on h)

/-! ## Blocks going out -/

def OutIdle (c : Dev nD) (s : Fin 2) : sProp 𝕄 := iprop((∃ f, outPts c s f) ∗ semVal ((c : Thread nD τ), .dma (outS s)) 0)
def OutHeld (c : Dev nD) (b : Fin 4) (s : Fin 2) : sProp 𝕄 :=
  iprop(outPts c s (outSlotF m c b) ∗ semVal ((c : Thread nD τ), .dma (outS s)) 0)
/-- Block `b` of the result on its way out of slot `s`. -/
def OutFlight (c : Dev nD) (b : Fin 4) (s : Fin 2) : sProp 𝕄 :=
  Transfers.Flight EC (c : Thread nD τ) (.dma (outS s)) () Nout iprop(yPts c b (outF m c) ∗ outPts c s (outSlotF m c b))

theorem out_fill (c : Dev nD) (b : Fin 4) (s : Fin 2) {w : Vec F S1x1024x1024 .bf16} (hw : w = outV m c b)
    {hl : outM.view.LoadsAt (bufR s).toLoadRect} {hx : (outM.access (bufR s)).Stores Finset.univ}
    {hm : Finset.univ = Finset.univ ∨ ∀ a, (bufR s).stride a = 1}
    {α : Type} {Q : α → sProp 𝕄} {k : PUnit → Prog (TpuEff nD τ sig (Elt F) Λ₀ .tc) α} :
    OutIdle c s
      ⊢ iprop((OutHeld m c b s -∗ Runs c (k ⟨⟩) Q)
          -∗ Runs c (.op (.load outM (bufR s).toLoadRect hl) fun _ => .op (.store outM (bufR s) w Finset.univ hx hm) k) Q) := by
  subst hw
  unfold OutIdle OutHeld outPts
  iintro ⟨⟨%f, H⟩, Hv⟩ Hk
  iapply (wp_load 𝒱₀ (c : Thread nD τ) none Set.univ (m := outM) (S := (bufR s).set) (f := f) (outM_on s)) $$ H
  iintro H
  iapply (wp_store 𝒱₀ (c : Thread nD τ) none Set.univ (m := outM) (r := bufR s) (Mk := Finset.univ) (S := (bufR s).set) (f := f)
    (out_acc s)) $$ H
  iintro H
  ihave H := (Entails.of_eq (pointsTo_congr (out_store m c b s f))) $$ H
  iapply Hk
  isplitl [H] <;> iassumption

theorem out_start (c : Dev nD) (b : Fin 4) (s : Fin 2)
    {hsrc : (outSlot s).view.WordExact} {hdst : (yRow b).view.WordExact}
    {hsem : (DmaTarget.here (yRow b) : DmaTarget nD τ sig .tc .hbm S1024x1024 .bf16).Typed .vmem (.dma (outS s))}
    {α : Type} {Q : α → sProp 𝕄} {k : PUnit → Prog (TpuEff nD τ sig (Elt F) Λ₀ .tc) α} :
    iprop(OutHeld m c b s ∗ ∃ f, yPts c b f)
      ⊢ iprop((OutFlight m c b s -∗ Runs c (k ⟨⟩) Q)
          -∗ Runs c (.op (.enqueueDma (outSlot s) (.here (yRow b)) (.dma (outS s)) hsrc hdst hsem) k) Q) := by
  unfold OutHeld OutFlight outPts yPts
  iintro ⟨⟨Hs, Hv⟩, ⟨%fd, Hd⟩⟩ Hk
  iapply (Transfers.wp_dmaLocal EC 𝒱₀ (c : Thread nD τ) none (src := outSlot s) (dst := yRow b) (q := fullShare) (fs := outSlotF m c b) (fd := fd)
      (Sd := (rowR b).set) () Nout (amount_out b (outS s)) Nout_pos (by rw [yRow_set])) $$ [Hs Hd Hv]
  · isplitl [Hs]; · rw [outSlot_set]; iexact Hs
    isplitl [Hd]; · iexact Hd
    iexact Hv
  iintro Hf
  iapply Hk
  iapply (Transfers.Flight_mono EC (c : Thread nD τ) ?h) $$ Hf
  case h =>
    rw [outSlot_set]
    exact sep_mono_left (Entails.of_eq (pointsTo_congr (out_eq m c b s fd)))

theorem out_wait (c : Dev nD) (b : Fin 4) (s : Fin 2)
    {sp : Space} {s' : Shape} {e' : EltTy} {src : Memref sig .tc sp s' e'}
    {hsrc : src.view.WordExact} {hdst : (yRow b).view.WordExact}
    {α : Type} {Q : α → sProp 𝕄} {k : PUnit → Prog (TpuEff nD τ sig (Elt F) Λ₀ .tc) α} :
    iprop(Owing c 0 ∗ OutFlight m c b s)
      ⊢ iprop((Owing c 0 ∗ OutIdle c s ∗ yPts c b (outF m c) -∗ Runs c (k ⟨⟩) Q)
          -∗ Runs c (.op (.waitDma2 (outS s) src (yRow b) hsrc hdst) k) Q) := by
  unfold Owing OutFlight OutIdle
  iintro ⟨⟨%W, HO⟩, Hf⟩ Hk
  iapply (Transfers.wp_waitLocalO EC 𝒱₀ (c : Thread nD τ) none () (credit_out b)) $$ [Hf HO]
  · isplitl [Hf]; · iexact Hf
    isplitl [HO]; · iexact HO
    rw [MayWait_zero]; iempintro
  iintro ⟨⟨Hy, Hs⟩, Hv, HO⟩
  iapply Hk
  isplitl [HO]; · iexists _; iexact HO
  isplitr [Hy]
  · isplitl [Hs]; · iexists _; iexact Hs
    iexact Hv
  iexact Hy

end Cert.KernelIdeal.Norm

end
-- ==== Proof.Turns.lean ====
/-
  What the body's states become between one kind of step and the next: the signals done; a half's statistics
  dealt out to its fifteen sends; the waits done, and the half of every slot put together.
-/
module

public import proofs.«01_k».proof.Proof.Local

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

theorem Above.mono {n n' : ℕ} (hn : n ≤ n') {O : CellTallies nD τ sig Unit} (h : Above n' O) : Above n O := fun g u hg =>
  ⟨(h g u hg).1, lt_of_le_of_lt hn (h g u hg).2⟩

/-- The first of sixteen, and the fifteen others. -/
theorem bigSep_first (Φ : Fin 16 → sProp 𝕄) :
    bigSep Finset.univ Φ = iprop(Φ 0 ∗ bigSep Finset.univ fun e : Fin 15 => Φ e.succ) := by
  have h : (Finset.univ : Finset (Fin 16)) = insert 0 (Finset.univ.map (Fin.succEmb 15)) := by decide
  rw [h]
  have h' : bigSep (insert (0 : Fin 16) (Finset.univ.map (Fin.succEmb 15))) Φ
      = iprop(Φ 0 ∗ bigSep (Finset.univ.map (Fin.succEmb 15)) Φ) := bigSep_insert (by decide)
  rw [h', bigSep_map]
  rfl

theorem sig_done (c : Dev nD) (O : CellTallies nD τ sig Unit) : SigSt m K c O 15 ⊢ Owing (F := F) c O := by
  unfold SigSt
  rw [owesBar_end, add_zero]
  iintro ⟨-, H, -⟩
  iexact H

/-- What the barrier brought, as the slots the sends of either half write. -/
def Slots (c : Dev nD) (h : Fin 2) : sProp 𝕄 := bigSep Finset.univ fun e : Fin 15 => iprop(∃ f, statPts (peer c e) e.succ h fullShare f)
theorem bar_slots (c : Dev nD) : (bigSep Finset.univ fun d => barPay (F := F) c d) = iprop(Slots (F := F) c 0 ∗ Slots (F := F) c 1) := by
  unfold Slots barPay
  exact bigSep_sep' _ _ _

/-- The tokens the sends of half `h` are paid for with. -/
def SendUses (c : Dev nD) (h : Fin 2) : sProp 𝕄 := bigSep Finset.univ fun e : Fin 15 => sendUse (F := F) c h e

theorem sends_start (c : Dev nD) (h : Fin 2) (O : CellTallies nD τ sig Unit) :
    iprop(env m K ∗ Owing c (O + owesHalf c h 0) ∗ SendUses (F := F) c h ∗ Slots (F := F) c h ∗ statPts c 0 h fullShare (statF m c)) ⊢ SendSt m K c h O 0 := by
  unfold SendSt Sends SendUses Slots
  iintro ⟨He, HO, Hu, Hs, Hp⟩
  isplitl [He]; · iexact He
  isplitl [HO]; · iexact HO
  rw [since_zero, until_zero, bigSep_empty, bigSep_sep', bigSep_sep']
  ihave Hp := (Entails.of_eq (show statPts c 0 h fullShare (statF m c) = bigSep Finset.univ fun e => sendPay m c h e from
    Transfers.pointsTo_deal (Finset.univ : Finset (Fin 15)) ⟨0, Finset.mem_univ _⟩ fullShare)) $$ Hp
  isplitl
  · isplitl [Hu]; · iexact Hu
    isplitl [Hp] <;> iassumption
  · iempintro

/-- What tells the device its sends of half `h` are to come back. -/
def SentCreds (c : Dev nD) (h : Fin 2) : sProp 𝕄 := bigSep Finset.univ fun e : Fin 15 => cred (tallyAt (cell c (some (false, h, e))) () N)
def CameCreds (c : Dev nD) (h : Fin 2) : sProp 𝕄 := bigSep Finset.univ fun e : Fin 15 => cred (tallyAt (cell c (some (true, h, e))) () N)
def Turns (c : Dev nD) (d : Bool) (h : Fin 2) : sProp 𝕄 := bigSep Finset.univ fun e : Fin 15 => atPos ER (cell c (some (d, h, e))) 0 ∅ 0
def Drained (c : Dev nD) (h : Fin 2) : sProp 𝕄 :=
  iprop((bigSep Finset.univ fun e : Fin 15 => semVal (cell c (some (false, h, e))) 0) ∗ bigSep Finset.univ fun e : Fin 15 => semVal (cell c (some (true, h, e))) 0)

theorem sends_done (c : Dev nD) (h : Fin 2) (O : CellTallies nD τ sig Unit) :
    SendSt m K c h O 15 ⊢ iprop(Owing (F := F) c O ∗ SentCreds (F := F) c h) := by
  unfold SendSt Sends SentCreds
  rw [owesHalf_end, add_zero, until_end]
  iintro ⟨-, HO, -, H⟩
  isplitl [HO] <;> iassumption

theorem waits_start (c : Dev nD) (h : Fin 2) :
    iprop(env m K ∗ Owing c 0 ∗ SentCreds (F := F) c h ∗ CameCreds (F := F) c h ∗ Turns (F := F) c false h ∗ Turns (F := F) c true h) ⊢ WaitSt m K c h 0 0 := by
  unfold WaitSt Waits' SentCreds CameCreds Turns
  rw [since_zero, until_zero, bigSep_empty, bigSep_sep', bigSep_empty, bigSep_sep']
  iintro ⟨He, HO, H₁, H₂, H₃, H₄⟩
  isplitl [He]; · iexact He
  isplitl [HO]; · iexact HO
  isplitl [H₁ H₃]
  · isplitl
    · isplitl [H₁] <;> iassumption
    · iempintro
  · isplitl
    · isplitl [H₂] <;> iassumption
    · iempintro

/-- The half of every slot makes up the half. -/
theorem half_union (c : Dev nD) (h : Fin 2) : ((halfR h).set : Finset (Idx ((c : Thread nD τ).loc cc0_scratch3)))
    = (Finset.univ : Finset (Fin 16)).biUnion fun d => ((statR d h).set : Finset (Idx ((c : Thread nD τ).loc cc0_scratch3))) := by
  ext i
  simp only [Finset.mem_biUnion, Finset.mem_univ, true_and]
  rw [mem_halfR]
  constructor
  · intro hi
    exact ⟨⟨(i 0).val, (i 0).isLt⟩, mem_statR.mpr ⟨rfl, hi⟩⟩
  · rintro ⟨d, hd⟩
    exact (mem_statR.mp hd).2

theorem statR_disjoint (h : Fin 2) (d d' : Fin 16) (hd : d ≠ d') : Disjoint (statR d h).set (statR d' h).set :=
  Finset.disjoint_left.mpr fun i hi hi' => hd (Fin.ext ((mem_statR.mp hi).1.symm.trans (mem_statR.mp hi').1))

theorem half_pieces (c : Dev nD) (h : Fin 2) (f : Buf (Elt F) ((c : Thread nD τ).loc cc0_scratch3)) :
    (((c : Thread nD τ).loc cc0_scratch3) ↦[(halfR h).set]{fullShare} f : sProp 𝕄)
      = iprop(statPts c 0 h fullShare f ∗ bigSep Finset.univ fun e : Fin 15 => statPts c e.succ h fullShare f) := by
  have h₁ : (((c : Thread nD τ).loc cc0_scratch3) ↦[(halfR h).set]{fullShare} f : sProp 𝕄)
      = bigSep Finset.univ fun d : Fin 16 => statPts c d h fullShare f := by
    rw [half_union c h]
    exact pointsTo_biUnion (Finset.univ : Finset (Fin 16)) _ fun d _ d' _ hd => statR_disjoint h d d' hd
  rw [h₁]
  exact bigSep_first (F := F) fun d => statPts c d h fullShare f

theorem waits_done (c : Dev nD) (h : Fin 2) : WaitSt m K c h 15 15 ⊢ iprop(Owing (F := F) c 0 ∗ halfPts m c h ∗ Drained (F := F) c h) := by
  unfold WaitSt Waits' halfPts Drained
  rw [until_end, since_end, bigSep_empty, bigSep_empty, bigSep_sep', bigSep_sep', half_pieces]
  iintro ⟨-, HO, ⟨-, Hs, Hz⟩, ⟨-, Hr, Hz'⟩⟩
  isplitl [HO]; · iexact HO
  isplitl [Hs Hr]
  · isplitl [Hs]
    · ihave Hs := (Entails.of_eq (show (bigSep Finset.univ fun e : Fin 15 => restOf m c (some (false, h, e))) = statPts c 0 h fullShare (statF m c) from
        (bigSep_congr fun e _ => restOf_send m c h e).trans
          (Transfers.pointsTo_deal (Finset.univ : Finset (Fin 15)) ⟨0, Finset.mem_univ _⟩ fullShare).symm)) $$ Hs
      iexact Hs
    · ihave Hr := (Entails.of_eq (show (bigSep Finset.univ fun e : Fin 15 => restOf m c (some (true, h, e))) = bigSep Finset.univ fun e : Fin 15 => statPts c e.succ h fullShare (statF m c) from
        bigSep_congr fun e _ => restOf_recv m c h e)) $$ Hr
      iexact Hr
  · isplitl [Hz] <;> iassumption

/-- Both blocks of a half stored, its own slot's half holds the statistics. -/
theorem own_stored (c : Dev nD) (h : Fin 2) (b b' : Fin 4) (hb : b.val = 2 * h.val) (hb' : b'.val = 2 * h.val + 1)
    (f : Buf (Elt F) ((c : Thread nD τ).loc cc0_scratch3)) :
    statPts c 0 h fullShare (stored m c b' (stored m c b f)) = statPts c 0 h fullShare (statF m c) :=
  pointsTo_congr (st_store_both m c h b b' hb hb' f)

end Cert.KernelIdeal.Norm

end
-- ==== Proof.Split.lean ====
/-
  The buffers split into the pieces the body holds them in, and put together again.
-/
module

public import proofs.«01_k».proof.Proof.Turns

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

theorem rows_cover : (Finset.univ : Finset S4096x1024.Idx) = Finset.univ.biUnion fun b : Fin 4 => (rowR b).set := by
  ext i
  simp only [Finset.mem_univ, Finset.mem_biUnion, true_and, true_iff]
  have hi : (i 0).val < 4096 := (i 0).isLt
  exact ⟨⟨(i 0).val / 1024, by omega⟩, mem_rowR.mpr rfl⟩
theorem rows_disjoint (b b' : Fin 4) (hb : b ≠ b') : Disjoint (rowR b).set (rowR b').set :=
  Finset.disjoint_left.mpr fun i hi hi' => hb (Fin.ext ((mem_rowR.mp hi).symm.trans (mem_rowR.mp hi')))
theorem bufs_cover : (Finset.univ : Finset S2x1024x1024.Idx) = Finset.univ.biUnion fun b : Fin 2 => (bufR b).set := by
  ext i
  simp only [Finset.mem_univ, Finset.mem_biUnion, true_and, true_iff]
  exact ⟨⟨(i 0).val, (i 0).isLt⟩, mem_bufR.mpr rfl⟩
theorem bufs_disjoint (b b' : Fin 2) (hb : b ≠ b') : Disjoint (bufR b).set (bufR b').set :=
  Finset.disjoint_left.mpr fun i hi hi' => hb (Fin.ext ((mem_bufR.mp hi).symm.trans (mem_bufR.mp hi')))
theorem bufs_union : (Finset.univ : Finset S2x1024x1024.Idx) = (bufR 0).set ∪ (bufR 1).set := by
  rw [bufs_cover]; ext i
  simp only [Finset.mem_biUnion, Finset.mem_univ, true_and, Finset.mem_union, Fin.exists_fin_two]
theorem halves_union : (Finset.univ : Finset S16x2x4096.Idx) = (halfR 0).set ∪ (halfR 1).set := by
  ext i
  simp only [Finset.mem_univ, Finset.mem_union, true_iff, mem_halfR]
  have hi : (i 2).val < 4096 := (i 2).isLt
  show (i 2).val / 2048 = 0 ∨ (i 2).val / 2048 = 1
  omega
theorem halves_disjoint : Disjoint (halfR 0).set (halfR 1).set :=
  Finset.disjoint_left.mpr fun i hi hi' => absurd ((mem_halfR.mp hi).symm.trans (mem_halfR.mp hi')) (by decide)

theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_two (Φ : Fin 2 → sProp 𝕄) : bigSep Finset.univ Φ = iprop(Φ 0 ∗ Φ 1) := bigSep_univ_eq_bigSepL [0, 1] (by decide) (by decide) Φ

theorem x_rows (c : Dev nD) (f : Buf (Elt F) ((c : Thread nD τ).loc main_arg0)) :
    (((c : Thread nD τ).loc main_arg0) ↦{fullShare} f : sProp 𝕄) = iprop((((c : Thread nD τ).loc main_arg0) ↦[(rowR 0).set]{fullShare} f) ∗ (((c : Thread nD τ).loc main_arg0) ↦[(rowR 1).set]{fullShare} f) ∗ (((c : Thread nD τ).loc main_arg0) ↦[(rowR 2).set]{fullShare} f) ∗ (((c : Thread nD τ).loc main_arg0) ↦[(rowR 3).set]{fullShare} f)) := by
  have h : (Finset.univ : Finset (Idx ((c : Thread nD τ).loc main_arg0))) = Finset.univ.biUnion fun b : Fin 4 => ((rowR b).set : Finset (Idx ((c : Thread nD τ).loc main_arg0))) := rows_cover
  show (((c : Thread nD τ).loc main_arg0) ↦[Finset.univ]{fullShare} f : sProp 𝕄) = _
  rw [h]
  exact (pointsTo_biUnion (Finset.univ : Finset (Fin 4)) _ fun b _ b' _ hb => rows_disjoint b b' hb).trans (bigSep_four (F := F) _)

theorem y_rows (c : Dev nD) (f : Buf (Elt F) ((c : Thread nD τ).loc main_v1)) :
    (((c : Thread nD τ).loc main_v1) ↦{fullShare} f : sProp 𝕄) = iprop(yPts c 0 f ∗ yPts c 1 f ∗ yPts c 2 f ∗ yPts c 3 f) := by
  have h : (Finset.univ : Finset (Idx ((c : Thread nD τ).loc main_v1))) = Finset.univ.biUnion fun b : Fin 4 => ((rowR b).set : Finset (Idx ((c : Thread nD τ).loc main_v1))) := rows_cover
  show (((c : Thread nD τ).loc main_v1) ↦[Finset.univ]{fullShare} f : sProp 𝕄) = _
  rw [h]
  exact (pointsTo_biUnion (Finset.univ : Finset (Fin 4)) _ fun b _ b' _ hb => rows_disjoint b b' hb).trans (bigSep_four (F := F) _)

theorem keep_rows (c : Dev nD) (f : Buf (Elt F) ((c : Thread nD τ).loc cc0_scratch1)) :
    (((c : Thread nD τ).loc cc0_scratch1) ↦{fullShare} f : sProp 𝕄) = iprop(keepPts c 0 f ∗ keepPts c 1 f ∗ keepPts c 2 f ∗ keepPts c 3 f) := by
  have h : (Finset.univ : Finset (Idx ((c : Thread nD τ).loc cc0_scratch1))) = Finset.univ.biUnion fun b : Fin 4 => ((rowR b).set : Finset (Idx ((c : Thread nD τ).loc cc0_scratch1))) := rows_cover
  show (((c : Thread nD τ).loc cc0_scratch1) ↦[Finset.univ]{fullShare} f : sProp 𝕄) = _
  rw [h]
  exact (pointsTo_biUnion (Finset.univ : Finset (Fin 4)) _ fun b _ b' _ hb => rows_disjoint b b' hb).trans (bigSep_four (F := F) _)

theorem in_slots (c : Dev nD) (f : Buf (Elt F) ((c : Thread nD τ).loc cc0_scratch0)) :
    (((c : Thread nD τ).loc cc0_scratch0) ↦{fullShare} f : sProp 𝕄) = iprop(inPts c 0 f ∗ inPts c 1 f) := by
  have h : (Finset.univ : Finset (Idx ((c : Thread nD τ).loc cc0_scratch0))) = Finset.univ.biUnion fun b : Fin 2 => ((bufR b).set : Finset (Idx ((c : Thread nD τ).loc cc0_scratch0))) := bufs_cover
  show (((c : Thread nD τ).loc cc0_scratch0) ↦[Finset.univ]{fullShare} f : sProp 𝕄) = _
  rw [h]
  exact (pointsTo_biUnion (Finset.univ : Finset (Fin 2)) _ fun b _ b' _ hb => bufs_disjoint b b' hb).trans (bigSep_two (F := F) _)

theorem in_join (c : Dev nD) :
    iprop((∃ f, inPts (F := F) c 0 f) ∗ ∃ f, inPts (F := F) c 1 f) ⊢ (∃ f : Buf (Elt F) ((c : Thread nD τ).loc cc0_scratch0), ((c : Thread nD τ).loc cc0_scratch0) ↦{fullShare} f : sProp 𝕄) := by
  have h : (Finset.univ : Finset (Idx ((c : Thread nD τ).loc cc0_scratch0))) = (bufR 0).set ∪ (bufR 1).set := bufs_union
  unfold inPts
  iintro ⟨⟨%f, H₀⟩, ⟨%g, H₁⟩⟩
  iexists ((bufR 1).set : Finset (Idx ((c : Thread nD τ).loc cc0_scratch0))).piecewise g f
  iapply (show iprop((((c : Thread nD τ).loc cc0_scratch0) ↦[(bufR 0).set]{fullShare} f) ∗ (((c : Thread nD τ).loc cc0_scratch0) ↦[(bufR 1).set]{fullShare} g))
      ⊢ (((c : Thread nD τ).loc cc0_scratch0) ↦[Finset.univ]{fullShare} (((bufR 1).set : Finset (Idx ((c : Thread nD τ).loc cc0_scratch0))).piecewise g f) : sProp 𝕄) from by
    rw [h]; exact pointsTo_join (bufs_disjoint 0 1 (by decide)))
  isplitl [H₀] <;> iassumption

theorem out_slots (c : Dev nD) (f : Buf (Elt F) ((c : Thread nD τ).loc cc0_scratch2)) :
    (((c : Thread nD τ).loc cc0_scratch2) ↦{fullShare} f : sProp 𝕄) = iprop(outPts c 0 f ∗ outPts c 1 f) := by
  have h : (Finset.univ : Finset (Idx ((c : Thread nD τ).loc cc0_scratch2))) = Finset.univ.biUnion fun b : Fin 2 => ((bufR b).set : Finset (Idx ((c : Thread nD τ).loc cc0_scratch2))) := bufs_cover
  show (((c : Thread nD τ).loc cc0_scratch2) ↦[Finset.univ]{fullShare} f : sProp 𝕄) = _
  rw [h]
  exact (pointsTo_biUnion (Finset.univ : Finset (Fin 2)) _ fun b _ b' _ hb => bufs_disjoint b b' hb).trans (bigSep_two (F := F) _)

theorem out_join (c : Dev nD) :
    iprop((∃ f, outPts (F := F) c 0 f) ∗ ∃ f, outPts (F := F) c 1 f) ⊢ (∃ f : Buf (Elt F) ((c : Thread nD τ).loc cc0_scratch2), ((c : Thread nD τ).loc cc0_scratch2) ↦{fullShare} f : sProp 𝕄) := by
  have h : (Finset.univ : Finset (Idx ((c : Thread nD τ).loc cc0_scratch2))) = (bufR 0).set ∪ (bufR 1).set := bufs_union
  unfold outPts
  iintro ⟨⟨%f, H₀⟩, ⟨%g, H₁⟩⟩
  iexists ((bufR 1).set : Finset (Idx ((c : Thread nD τ).loc cc0_scratch2))).piecewise g f
  iapply (show iprop((((c : Thread nD τ).loc cc0_scratch2) ↦[(bufR 0).set]{fullShare} f) ∗ (((c : Thread nD τ).loc cc0_scratch2) ↦[(bufR 1).set]{fullShare} g))
      ⊢ (((c : Thread nD τ).loc cc0_scratch2) ↦[Finset.univ]{fullShare} (((bufR 1).set : Finset (Idx ((c : Thread nD τ).loc cc0_scratch2))).piecewise g f) : sProp 𝕄) from by
    rw [h]; exact pointsTo_join (bufs_disjoint 0 1 (by decide)))
  isplitl [H₀] <;> iassumption

theorem stat_halves (c : Dev nD) (f : Buf (Elt F) ((c : Thread nD τ).loc cc0_scratch3)) :
    (((c : Thread nD τ).loc cc0_scratch3) ↦{fullShare} f : sProp 𝕄)
      = iprop((((c : Thread nD τ).loc cc0_scratch3) ↦[(halfR 0).set]{fullShare} f) ∗ (((c : Thread nD τ).loc cc0_scratch3) ↦[(halfR 1).set]{fullShare} f)) := by
  have h : (Finset.univ : Finset (Idx ((c : Thread nD τ).loc cc0_scratch3))) = (halfR 0).set ∪ (halfR 1).set := halves_union
  show (((c : Thread nD τ).loc cc0_scratch3) ↦[Finset.univ]{fullShare} f : sProp 𝕄) = _
  rw [h]
  exact BI.Entails.antisymm (pointsTo_union halves_disjoint).1 (pointsTo_union halves_disjoint).2

end Cert.KernelIdeal.Norm

end
-- ==== Proof.Ghost.lean ====
/-
  What the launch hands out: the shared semaphores' records, every device's places in them and the tokens of
  what it pays, all made at once out of the semaphores at zero.
-/
module

public import proofs.«01_k».proof.Proof.Split

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

/-! ## Names of the semaphores, taken apart -/

abbrev Xfer : Type := Bool × Fin 2 × Fin 15

theorem bigSep_key (Φ : Key → sProp 𝕄) :
    bigSep Finset.univ Φ = iprop(Φ none ∗ bigSep Finset.univ fun x : Xfer => Φ (some x)) := by
  have h : (Finset.univ : Finset Key) = insert none (Finset.univ.map Function.Embedding.some) := by
    ext k; cases k <;> simp
  rw [h]
  have h' : bigSep (insert (none : Key) (Finset.univ.map Function.Embedding.some)) Φ
      = iprop(Φ none ∗ bigSep (Finset.univ.map Function.Embedding.some) Φ) := bigSep_insert (by simp)
  rw [h', bigSep_map]
  rfl

theorem bigSep_bool (Φ : Bool → sProp 𝕄) : bigSep Finset.univ Φ = iprop(Φ false ∗ Φ true) := bigSep_univ_eq_bigSepL [false, true] (by decide) (by decide) Φ

theorem bigSep_xfer (Φ : Xfer → sProp 𝕄) :
    bigSep Finset.univ Φ = iprop(((bigSep Finset.univ fun e => Φ (false, 0, e)) ∗ bigSep Finset.univ fun e => Φ (false, 1, e))
      ∗ (bigSep Finset.univ fun e => Φ (true, 0, e)) ∗ bigSep Finset.univ fun e => Φ (true, 1, e)) := by
  rw [bigSep_univ_prod, bigSep_bool, bigSep_univ_prod, bigSep_univ_prod, bigSep_two, bigSep_two]

theorem cell_eq_iff {a b : Dev nD} {k k' : Key} : cell a k = cell b k' ↔ a = b ∧ k = k' :=
  ⟨fun h => ⟨Fin.ext (congrArg (fun g : GSem nD τ sig => g.1.1.val) h), keySem_injective (congrArg Prod.snd h)⟩,
    fun h => by rw [h.1, h.2]⟩

/-! ## The kernel's own semaphores -/

/-- Both ends of the transfers between devices, and the slots of the double buffers. -/
abbrev Own : Type := Xfer ⊕ (Bool × Fin 2)
def osem : Own → SemLoc sig
  | .inl x => keySem (some x)
  | .inr (false, s) => .dma (inS s)
  | .inr (true, s) => .dma (outS s)

set_option maxRecDepth 20000 in
theorem ownSemFacts : Pipeline.OwnSemFacts cfg0.spec osem := by decide

/-- The slots of the double buffers, their counters at zero. -/
def SlotsZero (c : Dev nD) : sProp 𝕄 :=
  iprop((semVal ((c : Thread nD τ), SemLoc.dma (inS 0)) 0 ∗ semVal ((c : Thread nD τ), SemLoc.dma (inS 1)) 0)
    ∗ semVal ((c : Thread nD τ), SemLoc.dma (outS 0)) 0 ∗ semVal ((c : Thread nD τ), SemLoc.dma (outS 1)) 0)

theorem ownSems0_eq (c : Dev nD) : (Pipeline.ownSems0 (Ix := Unit) (Name := ℕ) (U := UU) (Lvl := ℕ) (Val := Elt F) (τ := τ) osem c : sProp 𝕄)
    = iprop((bigSep Finset.univ fun x : Xfer => semVal (cell c (some x)) 0) ∗ SlotsZero c) := by
  unfold Pipeline.ownSems0 SlotsZero
  rw [bigSep_univ_sum, bigSep_univ_prod (fun p : Bool × Fin 2 => _), bigSep_bool, bigSep_two, bigSep_two]
  rfl

theorem unscopedSems0_eq (c : Dev nD) : (unscopedSems0 c : sProp 𝕄) = semVal (cell c none) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Key => semVal (cell c k) 0) ∗ SlotsZero (F := F) c) := by
  rw [ownSems0_eq, unscopedSems0_eq, bigSep_key]
  iintro ⟨⟨HS, HZ⟩, HB⟩
  isplitl [HS HB]
  · isplitl [HB] <;> iassumption
  · iexact HZ

/-! ## The launch element -/

def kcell (p : Dev nD × Key) : GSem nD τ sig := cell p.1 p.2
theorem kcell_injective : Function.Injective kcell := fun p q h => Prod.ext (cell_eq_iff.mp h).1 (cell_eq_iff.mp h).2
def ringCells : Finset (GSem nD τ sig) := Finset.univ.map ⟨kcell, kcell_injective⟩

/-- A token of every duty: fifteen of a barrier, one of either end of a transfer. -/
def tokOf (p : Dev nD × (Fin 15 ⊕ Xfer)) : GSem nD τ sig × ℕ × Fin 15 :=
  match p.2 with
  | .inl d => (cell p.1 none, 0, d)
  | .inr x => (cell p.1 (some x), 0, 0)
theorem tokOf_injective : Function.Injective tokOf := by
  rintro ⟨c, d | x⟩ ⟨c', d' | x'⟩ h
  · have h₁ := cell_eq_iff.mp (congrArg Prod.fst h)
    have h₂ : d = d' := congrArg (fun q : GSem nD τ sig × ℕ × Fin 15 => q.2.2) h
    exact Prod.ext h₁.1 (congrArg Sum.inl h₂)
  · exact absurd (cell_eq_iff.mp (congrArg Prod.fst h)).2 (by simp)
  · exact absurd (cell_eq_iff.mp (congrArg Prod.fst h)).2 (by simp)
  · have h₁ := cell_eq_iff.mp (congrArg Prod.fst h)
    exact Prod.ext h₁.1 (congrArg Sum.inr (Option.some.inj h₁.2))
def ringToks : Finset (GSem nD τ sig × ℕ × Fin 15) := Finset.univ.map ⟨tokOf, tokOf_injective⟩

def u₀ : UU :=
  (initOf (Pipeline.cells cfgs cellOf_inj) (Pipeline.launchToks cfgs cellOf_inj), (initOf ringCells ringToks, 1))

/-- The duty tokens of device `c`'s own semaphores. -/
def toks (c : Dev nD) : sProp 𝕄 :=
  iprop((bigSep Finset.univ fun d : Fin 15 => dutyTok ER (cell c none) 0 d) ∗ bigSep Finset.univ fun x : Xfer => dutyTok ER (cell c (some x)) 0 0)

/-- What the launch element deals device `c`. -/
def G (c : Dev nD) : sProp 𝕄 :=
  iprop((bigSep Finset.univ fun k : Key => roundState ER (sched m) (cell c k) 0)
    ∗ (bigSep Finset.univ fun k : Key => iprop(atPos ER (cell c k) 0 ∅ 0 ∗ reached ER (cell c k) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Key => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Key => iprop(∃ κ : ℕ, cellInv ER (sched m) κ (cell c k)))
          ∗ (bigSep Finset.univ fun k : Key => iprop(atPos ER (cell c k) 0 ∅ 0 ∗ reached ER (cell c k) 0)) ∗ toks c ∗ SlotsZero c) := by
  unfold G
  iintro ⟨Hos, Hus, Hst, Hat, Htok⟩
  ihave Hv := (sems0_eq (F := F) c) $$ [Hos Hus]
  · isplitl [Hos] <;> iassumption
  icases Hv with ⟨Hv, Hz⟩
  imod (show iprop((bigSep Finset.univ fun k : Key => semVal (cell c k) 0) ∗ bigSep Finset.univ fun k : Key => roundState ER (sched m) (cell c k) 0)
      ⊢ (|={Set.univ}=> bigSep Finset.univ fun k : Key => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## The tokens dealt around the ring -/

/-- Over all devices and distances, the devices counted from the other end. -/
theorem around_swap (Φ : Dev nD → Fin 15 → sProp 𝕄) :
    (bigSep Finset.univ fun c => bigSep Finset.univ fun e => Φ c e) = bigSep Finset.univ fun c => bigSep Finset.univ fun e => Φ (peer c e) e := by
  rw [bigSep_univ_comm, bigSep_univ_comm (fun (c : Dev nD) (e : Fin 15) => Φ (peer c e) e)]
  exact bigSep_congr fun e _ => bigSep_univ_equiv (around e) fun c => Φ c e

theorem around_swap_rev (Φ : Dev nD → Fin 15 → sProp 𝕄) :
    (bigSep Finset.univ fun c => bigSep Finset.univ fun e => Φ c e) = bigSep Finset.univ fun c => bigSep Finset.univ fun e => Φ (peer c e) e.rev := by
  rw [← around_swap fun c e => Φ c e.rev]
  exact bigSep_congr fun c _ => bigSep_univ_equiv Fin.revPerm fun e => Φ c e

/-- The tokens of the signals device `c` gives. -/
def barToks (c : Dev nD) : sProp 𝕄 := bigSep Finset.univ fun e : Fin 15 => dutyTok ER (cell (peer c e) none) 0 e.rev
/-- The tokens of all that device `c` pays. -/
def payToks (c : Dev nD) : sProp 𝕄 := iprop(barToks (F := F) c ∗ SendUses (F := F) c 0 ∗ SendUses (F := F) c 1)

theorem toks_around : (bigSep Finset.univ fun c : Dev nD => (toks c : sProp 𝕄))
    ⊢ bigSep Finset.univ fun c : Dev nD => (payToks c : sProp 𝕄) := by
  unfold payToks
  have hs (h : Fin 2) : (bigSep Finset.univ fun c : Dev nD => SendUses (F := F) c h)
      = iprop((bigSep Finset.univ fun c : Dev nD => bigSep Finset.univ fun e : Fin 15 => dutyTok ER (cell c (some (false, h, e))) 0 0)
        ∗ bigSep Finset.univ fun c : Dev nD => bigSep Finset.univ fun e : Fin 15 => dutyTok ER (cell c (some (true, h, e))) 0 0) := by
    rw [around_swap fun (c : Dev nD) e => (dutyTok ER (cell c (some (true, h, e))) 0 0 : sProp 𝕄), ← bigSep_sep']
    exact bigSep_congr fun c _ => bigSep_sep' _ _ _
  have ht (c : Dev nD) : (toks c : sProp 𝕄) = iprop((bigSep Finset.univ fun d : Fin 15 => dutyTok ER (cell c none) 0 d)
      ∗ ((bigSep Finset.univ fun e : Fin 15 => dutyTok ER (cell c (some (false, 0, e))) 0 0) ∗ bigSep Finset.univ fun e : Fin 15 => dutyTok ER (cell c (some (false, 1, e))) 0 0)
      ∗ (bigSep Finset.univ fun e : Fin 15 => dutyTok ER (cell c (some (true, 0, e))) 0 0) ∗ bigSep Finset.univ fun e : Fin 15 => dutyTok ER (cell c (some (true, 1, e))) 0 0) := by
    unfold toks; rw [bigSep_xfer]
  have hb : (bigSep Finset.univ fun c : Dev nD => bigSep Finset.univ fun d : Fin 15 => (dutyTok ER (cell c none) 0 d : sProp 𝕄))
      = bigSep Finset.univ fun c : Dev nD => barToks (F := F) c := around_swap_rev fun c d => dutyTok ER (cell c none) 0 d
  rw [bigSep_congr fun c _ => ht c, bigSep_sep', bigSep_sep', bigSep_sep', bigSep_sep', bigSep_sep', bigSep_sep', hs, hs, hb]
  iintro ⟨Hb, ⟨H1, H2⟩, H3, H4⟩
  isplitl [Hb]; · iexact Hb
  isplitl [H1 H3]
  · isplitl [H1] <;> iassumption
  · isplitl [H2] <;> iassumption

/-! ## The step at launch -/

/-- What stays with device `c`: its places, the tokens of what it pays, and the slots' counters. -/
def linear (c : Dev nD) : sProp 𝕄 :=
  iprop((bigSep Finset.univ fun k : Key => atPos ER (cell c k) 0 ∅ 0) ∗ payToks c ∗ SlotsZero c)

theorem linear_all : iprop((bigSep Finset.univ fun c : Dev nD => bigSep Finset.univ fun k : Key => (atPos ER (cell c k) 0 ∅ 0 : sProp 𝕄))
    ∗ (bigSep Finset.univ fun c : Dev nD => (payToks c : sProp 𝕄)) ∗ bigSep Finset.univ fun c : Dev nD => (SlotsZero c : sProp 𝕄))
      ⊢ bigSep Finset.univ fun c : Dev nD => (linear c : sProp 𝕄) := by
  unfold linear
  rw [bigSep_sep', bigSep_sep']

/-- That, at some names of the invariants. -/
def G' (c : Dev nD) : sProp 𝕄 := iprop(∃ K, records m K ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Key => iprop(∃ κ : ℕ, cellInv ER (sched m) κ (cell c k)))
          ∗ (bigSep Finset.univ fun k : Key => iprop(atPos ER (cell c k) 0 ∅ 0 ∗ reached ER (cell c k) 0)) ∗ toks c ∗ SlotsZero c) : sProp 𝕄)
      ⊢ bigSep Finset.univ (G' m) := by
  rw [bigSep_sep', bigSep_sep', bigSep_sep', ← bigSep_univ_prod (fun p : Dev nD × Key => iprop(∃ κ : ℕ, cellInv ER (sched m) κ (cell p.1 p.2))),
    bigSep_congr (s := Finset.univ) (fun (c : Dev nD) _ => bigSep_sep' Finset.univ (fun k : Key => (atPos ER (cell c k) 0 ∅ 0 : sProp 𝕄)) (fun k => reached ER (cell c k) 0)),
    bigSep_sep', ← bigSep_univ_prod (fun p : Dev nD × Key => (reached ER (cell p.1 p.2) 0 : sProp 𝕄))]
  iintro ⟨HI, ⟨Hat, #HR⟩, Htok, Hz⟩
  ihave HK := (BI.bigSep_exists_pi Finset.univ (fun (p : Dev nD × Key) (κ : ℕ) => (cellInv ER (sched m) κ (cell p.1 p.2) : sProp 𝕄))) $$ HI
  icases HK with ⟨%K, #HI⟩
  ihave Htk := (toks_around (F := F)) $$ Htok
  iapply (with_persistent (R := records m K) (Φ := linear) fun c _ => show iprop(records m K ∗ linear c) ⊢ G' m c from by
    unfold G'
    iintro H
    iexists K
    iexact H)
  isplitr
  · unfold records; isplitl; · iexact HI
    iexact HR
  · iapply (linear_all (F := F))
    isplitl [Hat]; · iexact Hat
    isplitl [Htk] <;> iassumption

/-- Every device's semaphores at zero and what the launch element deals, turned into what the devices start from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Norm

end
-- ==== Proof.Credits.lean ====
/-
  What the devices are told they will receive: over all devices, what is owed to a device's barrier and to
  the arrivals there.
-/
module

public import proofs.«01_k».proof.Proof.Ghost

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

/-- Of what every device owes the others under the names `k`, the part owed to one name of device `c`. -/
theorem owed_total (n : ℕ) (k : Fin 15 → Key) (c : Dev nD) (k₀ : Key) :
    ∑ d, (∑ e ∈ since 0, tallyAt (cell (peer d e) (k e)) () n : CellTallies nD τ sig Unit) (cell c k₀) () = ∑ e, if k e = k₀ then n else 0 := by
  have h₁ (d : Dev nD) : (∑ e ∈ since 0, tallyAt (cell (peer d e) (k e)) () n : CellTallies nD τ sig Unit) (cell c k₀) ()
      = ∑ e, if peer d e = c then (if k e = k₀ then n else 0) else 0 := by
    rw [since_zero, Finset.sum_apply, Finsupp.finset_sum_apply]
    refine Finset.sum_congr rfl fun e _ => ?_
    rw [tallyAt_apply]
    by_cases h : peer d e = c
    · by_cases h' : k e = k₀
      · rw [if_pos ⟨(cell_eq_iff.mpr ⟨h, h'⟩).symm, rfl⟩, if_pos h, if_pos h']
      · rw [if_neg fun hh => h' (cell_eq_iff.mp hh.1).2.symm, if_pos h, if_neg h']
    · rw [if_neg fun hh => h (cell_eq_iff.mp hh.1).1.symm, if_neg h]
  rw [Finset.sum_congr rfl fun d _ => h₁ d, Finset.sum_comm]
  refine Finset.sum_congr rfl fun e _ => ?_
  rw [Fintype.sum_equiv (around e) (fun d => if peer d e = c then (if k e = k₀ then n else 0) else 0) (fun d => if d = c then (if k e = k₀ then n else 0) else 0) fun d => rfl,
    Finset.sum_ite_eq' Finset.univ c, if_pos (Finset.mem_univ _)]

theorem owed_split (c : Dev nD) (k₀ : Key) : ∑ d, O₀ d (cell c k₀) ()
    = ((∑ e : Fin 15, if (some (true, (1 : Fin 2), e) : Key) = k₀ then N else 0) + ∑ e : Fin 15, if (some (true, (0 : Fin 2), e) : Key) = k₀ then N else 0)
      + ∑ e : Fin 15, if (none : Key) = k₀ then 1 else 0 := by
  rw [← owed_total N (fun e => some (true, 1, e)) c k₀, ← owed_total N (fun e => some (true, 0, e)) c k₀, ← owed_total 1 (fun _ => none) c k₀,
    ← Finset.sum_add_distrib, ← Finset.sum_add_distrib]
  rfl

theorem owed_bar (c : Dev nD) : ∑ d, O₀ d (cell c none) () = 15 := by
  rw [owed_split]
  have h (h : Fin 2) : (∑ e : Fin 15, if (some (true, h, e) : Key) = none then N else 0) = 0 :=
    Finset.sum_eq_zero fun e _ => if_neg (by simp)
  rw [h, h]
  rfl

theorem owed_came (c : Dev nD) (h : Fin 2) (e₀ : Fin 15) : ∑ d, O₀ d (cell c (some (true, h, e₀))) () = N := by
  rw [owed_split]
  have hz : (∑ e : Fin 15, if (none : Key) = some (true, h, e₀) then 1 else 0) = 0 := Finset.sum_eq_zero fun e _ => if_neg (by simp)
  have hh (h' : Fin 2) : (∑ e : Fin 15, if (some (true, h', e) : Key) = some (true, h, e₀) then N else 0) = if h' = h then N else 0 := by
    by_cases hc : h' = h
    · subst hc
      rw [if_pos rfl, ← Finset.sum_ite_eq' Finset.univ e₀ (fun _ => N) |>.trans (if_pos (Finset.mem_univ _))]
      exact Finset.sum_congr rfl fun e _ => by simp
    · rw [if_neg hc]
      exact Finset.sum_eq_zero fun e _ => if_neg (by simp [hc])
  rw [hz, hh, hh]
  fin_cases h
  · simp
  · simp

/-- The credit at launch of one name, from what is owed to it. -/
theorem launch_key (c : Dev nD) (k : Key) (n : ℕ) (h : ∑ d, O₀ d (cell c k) () = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

/-- Of something of every semaphore, that of the barrier and of the arrivals. -/
theorem key_part (Φ : SemLoc sig → sProp 𝕄) : bigSep Finset.univ Φ ⊢ iprop(Φ (keySem none)
    ∗ (bigSep Finset.univ fun e => Φ (keySem (some (true, 0, e)))) ∗ bigSep Finset.univ fun e => Φ (keySem (some (true, 1, e)))) := by
  have h₁ : (bigSep Finset.univ Φ : sProp 𝕄) ⊢ bigSep (Finset.univ.map ⟨keySem, keySem_injective⟩) Φ := bigSep_subset (Finset.subset_univ _)
  have h₂ : (bigSep (Finset.univ.map ⟨keySem, keySem_injective⟩) Φ : sProp 𝕄) = bigSep Finset.univ fun k : Key => Φ (keySem k) := bigSep_map _
  rw [h₂, bigSep_key, bigSep_xfer] at h₁
  iintro H
  ihave H := h₁ $$ H
  icases H with ⟨H, -, H0, H1⟩
  isplitl [H]; · iexact H
  isplitl [H0] <;> iassumption

theorem creds (c : Dev nD) :
    (Pipeline.launchCred O₀ c : sProp 𝕄) ⊢ iprop(cred (tallyAt (cell c none) () 15) ∗ CameCreds (F := F) c 0 ∗ CameCreds (F := F) c 1) := by
  unfold Pipeline.launchCred
  have hb : tallyOn (cell c none) (launchCredit (Pipeline.owing O₀) 0 (cell c none)) = (tallyAt (cell c none) () 15 : CellTallies nD τ sig Unit) :=
    launch_key c none 15 (owed_bar c)
  have hk (h : Fin 2) : (bigSep Finset.univ fun e : Fin 15 => (cred (tallyOn (cell c (some (true, h, e))) (launchCredit (Pipeline.owing O₀) 0 (cell c (some (true, h, e))))) : sProp 𝕄))
      = CameCreds (F := F) c h := bigSep_congr fun e _ => by rw [launch_key c _ N (owed_came c h e)]
  rw [← hk, ← hk, ← hb]
  exact key_part (F := F) _

end Cert.KernelIdeal.Norm

end
-- ==== Proof.Signalling.lean ====
/-
  The signals: a device signals each of the others in turn, handing each the slot it will write.
-/
module

public import proofs.«01_k».proof.Proof.Local

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

variable (c : Dev nD)

/-- The first five signals. -/
theorem part1 (O : CellTallies nD τ sig Unit)  {α : Type} {Q : α → sProp 𝕄}
    {f : (Σ' (d0 : Dev nD) (v2 : BitVec 32) (v3 : Sems sig S_) (v24 : BitVec 32), BitVec 32) → Prog (TpuEff nD τ sig (Elt F) Λ₀ .tc) α} :
    SigSt m K c O 0
      ⊢ iprop((∀ v2 v24 n, SigSt m K c O 5 -∗ Runs c (f ⟨c, v2, SemArray.scalar (sig.barrier 0 rfl), v24, n⟩) Q)
          -∗ Runs c (k0_part1 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7  >>= f) Q) := by
  rw [k0_part1_eq_skeleton]; unfold k0_part1_skel
  simp only [semSignalWord, semWaitWord, Prog.lift, Prog.bind_op, Prog.bind_ret, Prog.pure_eq_ret, wp_deviceId]
  iintro H Hk
  iapply (sig_run m K c _ 0 0 1 rfl rfl (at_peer 0 (k0_dev1_lt c) (k0_dev1_eq c) rfl) O rfl) $$ H
  iintro H
  iapply (sig_run m K c _ 1 1 2 rfl rfl (at_peer 1 (k0_dev2_lt c) (k0_dev2_eq c) rfl) O rfl) $$ H
  iintro H
  iapply (sig_run m K c _ 2 2 3 rfl rfl (at_peer 2 (k0_dev3_lt c) (k0_dev3_eq c) rfl) O rfl) $$ H
  iintro H
  iapply (sig_run m K c _ 3 3 4 rfl rfl (at_peer 3 (k0_dev4_lt c) (k0_dev4_eq c) rfl) O rfl) $$ H
  iintro H
  iapply (sig_run m K c _ 4 4 5 rfl rfl (at_peer 4 (k0_dev5_lt c) (k0_dev5_eq c) rfl) O rfl) $$ H
  iintro H
  iapply Hk; iexact H

/-- The next six. -/
theorem part2 (O : CellTallies nD τ sig Unit) (v2 : BitVec 32) (v24 : BitVec 32) (c16_i32_20 : BitVec 32) {α : Type} {Q : α → sProp 𝕄}
    {f : (Σ' (v48 : BitVec 32), BitVec 32) → Prog (TpuEff nD τ sig (Elt F) Λ₀ .tc) α} :
    SigSt m K c O 5
      ⊢ iprop((∀ r, SigSt m K c O 11 -∗ Runs c (f r) Q)
          -∗ Runs c (k0_part2 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 c v2 (SemArray.scalar (sig.barrier 0 rfl)) v24 c16_i32_20 >>= f) Q) := by
  rw [k0_part2_eq_skeleton]; unfold k0_part2_skel
  simp only [semSignalWord, semWaitWord, Prog.lift, Prog.bind_op, Prog.bind_ret, Prog.pure_eq_ret, wp_deviceId]
  iintro H Hk
  iapply (sig_run m K c _ 5 5 6 rfl rfl (at_peer 5 (k0_dev6_lt c) (k0_dev6_eq c) rfl) O rfl) $$ H
  iintro H
  iapply (sig_run m K c _ 6 6 7 rfl rfl (at_peer 6 (k0_dev7_lt c) (k0_dev7_eq c) rfl) O rfl) $$ H
  iintro H
  iapply (sig_run m K c _ 7 7 8 rfl rfl (at_peer 7 (k0_dev8_lt c) (k0_dev8_eq c) rfl) O rfl) $$ H
  iintro H
  iapply (sig_run m K c _ 8 8 9 rfl rfl (at_peer 8 (k0_dev9_lt c) (k0_dev9_eq c) rfl) O rfl) $$ H
  iintro H
  iapply (sig_run m K c _ 9 9 10 rfl rfl (at_peer 9 (k0_dev10_lt c) (k0_dev10_eq c) rfl) O rfl) $$ H
  iintro H
  iapply (sig_run m K c _ 10 10 11 rfl rfl (at_peer 10 (k0_dev11_lt c) (k0_dev11_eq c) rfl) O rfl) $$ H
  iintro H
  iapply Hk; iexact H

/-- The last four, and the first block of the input on its way. -/
theorem part3 (O : CellTallies nD τ sig Unit) (v2 : BitVec 32) (v48 : BitVec 32) (c16_i32_44 : BitVec 32) {α : Type} {Q : α → sProp 𝕄}
    {f : (PUnit) → Prog (TpuEff nD τ sig (Elt F) Λ₀ .tc) α} :
    iprop(SigSt m K c O 11 ∗ InIdle c 0 ∗ xPts m c 0)
      ⊢ iprop((SigSt m K c O 15 ∗ InFlight m c 0 0 -∗ Runs c (f ⟨⟩) Q)
          -∗ Runs c (k0_part3 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 c v2 (SemArray.scalar (sig.barrier 0 rfl)) v48 c16_i32_44 >>= f) Q) := by
  rw [k0_part3_eq_skeleton]; unfold k0_part3_skel
  simp only [semSignalWord, semWaitWord, Prog.lift, Prog.bind_op, Prog.bind_ret, Prog.pure_eq_ret, wp_deviceId]
  iintro ⟨H, Hi, Hx⟩ Hk
  iapply (sig_run m K c _ 11 11 12 rfl rfl (at_peer 11 (k0_dev12_lt c) (k0_dev12_eq c) rfl) O rfl) $$ H
  iintro H
  iapply (sig_run m K c _ 12 12 13 rfl rfl (at_peer 12 (k0_dev13_lt c) (k0_dev13_eq c) rfl) O rfl) $$ H
  iintro H
  iapply (sig_run m K c _ 13 13 14 rfl rfl (at_peer 13 (k0_dev14_lt c) (k0_dev14_eq c) rfl) O rfl) $$ H
  iintro H
  iapply (sig_run m K c _ 14 14 15 rfl rfl (at_peer 14 (k0_dev15_lt c) (k0_dev15_eq c) rfl) O rfl) $$ H
  iintro H
  iapply (in_start m c 0 0) $$ [Hi Hx]
  · isplitl [Hi] <;> iassumption
  iintro Hi
  iapply Hk
  isplitl [H] <;> iassumption

end Cert.KernelIdeal.Norm

end
-- ==== Proof.Sending.lean ====
/-
  The sends: either half of a device's own statistics to each of the others in turn.
-/
module

public import proofs.«01_k».proof.Proof.Local

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

variable (c : Dev nD)

theorem part6 (O : CellTallies nD τ sig Unit) (v2 : BitVec 32) (v128 : BitVec 32) {α : Type} {Q : α → sProp 𝕄}
    {f : (Σ' (v139 : BitVec 32), BitVec 32) → Prog (TpuEff nD τ sig (Elt F) Λ₀ .tc) α} :
    SendSt m K c 0 O 0
      ⊢ iprop((∀ r, SendSt m K c 0 O 2 -∗ Runs c (f r) Q)
          -∗ Runs c (k0_part6 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 c v2 v128 >>= f) Q) := by
  rw [k0_part6_eq_skeleton]; unfold k0_part6_skel
  simp only [semSignalWord, semWaitWord, Prog.lift, Prog.bind_op, Prog.bind_ret, Prog.pure_eq_ret, wp_deviceId]
  iintro H Hk
  iapply (send_run m K c _ 0 0 0 1 rfl rfl (at_peer 0 (k0_dev16_lt c) (k0_dev16_eq c) rfl) O) $$ H
  iintro H
  iapply (send_run m K c _ 0 1 1 2 rfl rfl (at_peer 1 (k0_dev17_lt c) (k0_dev17_eq c) rfl) O) $$ H
  iintro H
  iapply Hk; iexact H

theorem part7 (O : CellTallies nD τ sig Unit) (v2 : BitVec 32) {α : Type} {Q : α → sProp 𝕄}
    {f : (Σ' (v163 : BitVec 32), BitVec 32) → Prog (TpuEff nD τ sig (Elt F) Λ₀ .tc) α} :
    SendSt m K c 0 O 2
      ⊢ iprop((∀ r, SendSt m K c 0 O 4 -∗ Runs c (f r) Q)
          -∗ Runs c (k0_part7 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 c v2 >>= f) Q) := by
  rw [k0_part7_eq_skeleton]; unfold k0_part7_skel
  simp only [semSignalWord, semWaitWord, Prog.lift, Prog.bind_op, Prog.bind_ret, Prog.pure_eq_ret, wp_deviceId]
  iintro H Hk
  iapply (send_run m K c _ 0 2 2 3 rfl rfl (at_peer 2 (k0_dev18_lt c) (k0_dev18_eq c) rfl) O) $$ H
  iintro H
  iapply (send_run m K c _ 0 3 3 4 rfl rfl (at_peer 3 (k0_dev19_lt c) (k0_dev19_eq c) rfl) O) $$ H
  iintro H
  iapply Hk; iexact H

theorem part8 (O : CellTallies nD τ sig Unit) (v2 : BitVec 32) {α : Type} {Q : α → sProp 𝕄}
    {f : (Σ' (v187 : BitVec 32) (v199 : BitVec 32) (v210 : BitVec 32), BitVec 32) → Prog (TpuEff nD τ sig (Elt F) Λ₀ .tc) α} :
    SendSt m K c 0 O 4
      ⊢ iprop((∀ r, SendSt m K c 0 O 7 -∗ Runs c (f r) Q)
          -∗ Runs c (k0_part8 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 c v2 >>= f) Q) := by
  rw [k0_part8_eq_skeleton]; unfold k0_part8_skel
  simp only [semSignalWord, semWaitWord, Prog.lift, Prog.bind_op, Prog.bind_ret, Prog.pure_eq_ret, wp_deviceId]
  iintro H Hk
  iapply (send_run m K c _ 0 4 4 5 rfl rfl (at_peer 4 (k0_dev20_lt c) (k0_dev20_eq c) rfl) O) $$ H
  iintro H
  iapply (send_run m K c _ 0 5 5 6 rfl rfl (at_peer 5 (k0_dev21_lt c) (k0_dev21_eq c) rfl) O) $$ H
  iintro H
  iapply (send_run m K c _ 0 6 6 7 rfl rfl (at_peer 6 (k0_dev22_lt c) (k0_dev22_eq c) rfl) O) $$ H
  iintro H
  iapply Hk; iexact H

theorem part9 (O : CellTallies nD τ sig Unit) (v2 : BitVec 32) (v210 : BitVec 32) (c16_i32_209 : BitVec 32) {α : Type} {Q : α → sProp 𝕄}
    {f : (Σ' (v211 : BitVec 32) (v223 : BitVec 32), BitVec 32) → Prog (TpuEff nD τ sig (Elt F) Λ₀ .tc) α} :
    SendSt m K c 0 O 7
      ⊢ iprop((∀ r, SendSt m K c 0 O 9 -∗ Runs c (f r) Q)
          -∗ Runs c (k0_part9 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 c v2 v210 c16_i32_209 >>= f) Q) := by
  rw [k0_part9_eq_skeleton]; unfold k0_part9_skel
  simp only [semSignalWord, semWaitWord, Prog.lift, Prog.bind_op, Prog.bind_ret, Prog.pure_eq_ret, wp_deviceId]
  iintro H Hk
  iapply (send_run m K c _ 0 7 7 8 rfl rfl (at_peer 7 (k0_dev23_lt c) (k0_dev23_eq c) rfl) O) $$ H
  iintro H
  iapply (send_run m K c _ 0 8 8 9 rfl rfl (at_peer 8 (k0_dev24_lt c) (k0_dev24_eq c) rfl) O) $$ H
  iintro H
  iapply Hk; iexact H

theorem part10 (O : CellTallies nD τ sig Unit) (v2 : BitVec 32) (v235 : BitVec 32) {α : Type} {Q : α → sProp 𝕄}
    {f : (Σ' (v247 : BitVec 32), BitVec 32) → Prog (TpuEff nD τ sig (Elt F) Λ₀ .tc) α} :
    SendSt m K c 0 O 9
      ⊢ iprop((∀ r, SendSt m K c 0 O 11 -∗ Runs c (f r) Q)
          -∗ Runs c (k0_part10 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 c v2 v235 >>= f) Q) := by
  rw [k0_part10_eq_skeleton]; unfold k0_part10_skel
  simp only [semSignalWord, semWaitWord, Prog.lift, Prog.bind_op, Prog.bind_ret, Prog.pure_eq_ret, wp_deviceId]
  iintro H Hk
  iapply (send_run m K c _ 0 9 9 10 rfl rfl (at_peer 9 (k0_dev25_lt c) (k0_dev25_eq c) rfl) O) $$ H
  iintro H
  iapply (send_run m K c _ 0 10 10 11 rfl rfl (at_peer 10 (k0_dev26_lt c) (k0_dev26_eq c) rfl) O) $$ H
  iintro H
  iapply Hk; iexact H

theorem part11 (O : CellTallies nD τ sig Unit) (v2 : BitVec 32) {α : Type} {Q : α → sProp 𝕄}
    {f : (Σ' (v271 : BitVec 32), BitVec 32) → Prog (TpuEff nD τ sig (Elt F) Λ₀ .tc) α} :
    SendSt m K c 0 O 11
      ⊢ iprop((∀ r, SendSt m K c 0 O 13 -∗ Runs c (f r) Q)
          -∗ Runs c (k0_part11 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 c v2 >>= f) Q) := by
  rw [k0_part11_eq_skeleton]; unfold k0_part11_skel
  simp only [semSignalWord, semWaitWord, Prog.lift, Prog.bind_op, Prog.bind_ret, Prog.pure_eq_ret, wp_deviceId]
  iintro H Hk
  iapply (send_run m K c _ 0 11 11 12 rfl rfl (at_peer 11 (k0_dev27_lt c) (k0_dev27_eq c) rfl) O) $$ H
  iintro H
  iapply (send_run m K c _ 0 12 12 13 rfl rfl (at_peer 12 (k0_dev28_lt c) (k0_dev28_eq c) rfl) O) $$ H
  iintro H
  iapply Hk; iexact H

theorem part14 (O : CellTallies nD τ sig Unit) (v2 : BitVec 32) (v349 : BitVec 32) {α : Type} {Q : α → sProp 𝕄}
    {f : (Σ' (v361 : BitVec 32) (v373 : BitVec 32) (v374 : BitVec 32), BitVec 32) → Prog (TpuEff nD τ sig (Elt F) Λ₀ .tc) α} :
    SendSt m K c 1 O 0
      ⊢ iprop((∀ r, SendSt m K c 1 O 2 -∗ Runs c (f r) Q)
          -∗ Runs c (k0_part14 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 c v2 v349 >>= f) Q) := by
  rw [k0_part14_eq_skeleton]; unfold k0_part14_skel
  simp only [semSignalWord, semWaitWord, Prog.lift, Prog.bind_op, Prog.bind_ret, Prog.pure_eq_ret, wp_deviceId]
  iintro H Hk
  iapply (send_run m K c _ 1 0 0 1 rfl rfl (at_peer 0 (k0_dev31_lt c) (k0_dev31_eq c) rfl) O) $$ H
  iintro H
  iapply (send_run m K c _ 1 1 1 2 rfl rfl (at_peer 1 (k0_dev32_lt c) (k0_dev32_eq c) rfl) O) $$ H
  iintro H
  iapply Hk; iexact H

theorem part15 (O : CellTallies nD τ sig Unit) (v2 : BitVec 32) (v374 : BitVec 32) (c0_i32_387 : BitVec 32) {α : Type} {Q : α → sProp 𝕄}
    {f : (Σ' (v385 : BitVec 32), BitVec 32) → Prog (TpuEff nD τ sig (Elt F) Λ₀ .tc) α} :
    SendSt m K c 1 O 2
      ⊢ iprop((∀ r, SendSt m K c 1 O 4 -∗ Runs c (f r) Q)
          -∗ Runs c (k0_part15 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 c v2 v374 c0_i32_387 >>= f) Q) := by
  rw [k0_part15_eq_skeleton]; unfold k0_part15_skel
  simp only [semSignalWord, semWaitWord, Prog.lift, Prog.bind_op, Prog.bind_ret, Prog.pure_eq_ret, wp_deviceId]
  iintro H Hk
  iapply (send_run m K c _ 1 2 2 3 rfl rfl (at_peer 2 (k0_dev33_lt c) (k0_dev33_eq c) rfl) O) $$ H
  iintro H
  iapply (send_run m K c _ 1 3 3 4 rfl rfl (at_peer 3 (k0_dev34_lt c) (k0_dev34_eq c) rfl) O) $$ H
  iintro H
  iapply Hk; iexact H

theorem part16 (O : CellTallies nD τ sig Unit) (v2 : BitVec 32) {α : Type} {Q : α → sProp 𝕄}
    {f : (Σ' (v409 : BitVec 32), BitVec 32) → Prog (TpuEff nD τ sig (Elt F) Λ₀ .tc) α} :
    SendSt m K c 1 O 4
      ⊢ iprop((∀ r, SendSt m K c 1 O 6 -∗ Runs c (f r) Q)
          -∗ Runs c (k0_part16 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 c v2 >>= f) Q) := by
  rw [k0_part16_eq_skeleton]; unfold k0_part16_skel
  simp only [semSignalWord, semWaitWord, Prog.lift, Prog.bind_op, Prog.bind_ret, Prog.pure_eq_ret, wp_deviceId]
  iintro H Hk
  iapply (send_run m K c _ 1 4 4 5 rfl rfl (at_peer 4 (k0_dev35_lt c) (k0_dev35_eq c) rfl) O) $$ H
  iintro H
  iapply (send_run m K c _ 1 5 5 6 rfl rfl (at_peer 5 (k0_dev36_lt c) (k0_dev36_eq c) rfl) O) $$ H
  iintro H
  iapply Hk; iexact H

theorem part17 (O : CellTallies nD τ sig Unit) (v2 : BitVec 32) {α : Type} {Q : α → sProp 𝕄}
    {f : (Σ' (v433 : BitVec 32) (v445 : BitVec 32), BitVec 32) → Prog (TpuEff nD τ sig (Elt F) Λ₀ .tc) α} :
    SendSt m K c 1 O 6
      ⊢ iprop((∀ r, SendSt m K c 1 O 9 -∗ Runs c (f r) Q)
          -∗ Runs c (k0_part17 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 c v2 >>= f) Q) := by
  rw [k0_part17_eq_skeleton]; unfold k0_part17_skel
  simp only [semSignalWord, semWaitWord, Prog.lift, Prog.bind_op, Prog.bind_ret, Prog.pure_eq_ret, wp_deviceId]
  iintro H Hk
  iapply (send_run m K c _ 1 6 6 7 rfl rfl (at_peer 6 (k0_dev37_lt c) (k0_dev37_eq c) rfl) O) $$ H
  iintro H
  iapply (send_run m K c _ 1 7 7 8 rfl rfl (at_peer 7 (k0_dev38_lt c) (k0_dev38_eq c) rfl) O) $$ H
  iintro H
  iapply (send_run m K c _ 1 8 8 9 rfl rfl (at_peer 8 (k0_dev39_lt c) (k0_dev39_eq c) rfl) O) $$ H
  iintro H
  iapply Hk; iexact H

theorem part18 (O : CellTallies nD τ sig Unit) (v2 : BitVec 32) (v457 : BitVec 32) {α : Type} {Q : α → sProp 𝕄}
    {f : (Σ' (v469 : BitVec 32), BitVec 32) → Prog (TpuEff nD τ sig (Elt F) Λ₀ .tc) α} :
    SendSt m K c 1 O 9
      ⊢ iprop((∀ r, SendSt m K c 1 O 11 -∗ Runs c (f r) Q)
          -∗ Runs c (k0_part18 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 c v2 v457 >>= f) Q) := by
  rw [k0_part18_eq_skeleton]; unfold k0_part18_skel
  simp only [semSignalWord, semWaitWord, Prog.lift, Prog.bind_op, Prog.bind_ret, Prog.pure_eq_ret, wp_deviceId]
  iintro H Hk
  iapply (send_run m K c _ 1 9 9 10 rfl rfl (at_peer 9 (k0_dev40_lt c) (k0_dev40_eq c) rfl) O) $$ H
  iintro H
  iapply (send_run m K c _ 1 10 10 11 rfl rfl (at_peer 10 (k0_dev41_lt c) (k0_dev41_eq c) rfl) O) $$ H
  iintro H
  iapply Hk; iexact H

theorem part19 (O : CellTallies nD τ sig Unit) (v2 : BitVec 32) (v481 : BitVec 32) {α : Type} {Q : α → sProp 𝕄}
    {f : (Σ' (v493 : BitVec 32), BitVec 32) → Prog (TpuEff nD τ sig (Elt F) Λ₀ .tc) α} :
    SendSt m K c 1 O 11
      ⊢ iprop((∀ r, SendSt m K c 1 O 13 -∗ Runs c (f r) Q)
          -∗ Runs c (k0_part19 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 c v2 v481 >>= f) Q) := by
  rw [k0_part19_eq_skeleton]; unfold k0_part19_skel
  simp only [semSignalWord, semWaitWord, Prog.lift, Prog.bind_op, Prog.bind_ret, Prog.pure_eq_ret, wp_deviceId]
  iintro H Hk
  iapply (send_run m K c _ 1 11 11 12 rfl rfl (at_peer 11 (k0_dev42_lt c) (k0_dev42_eq c) rfl) O) $$ H
  iintro H
  iapply (send_run m K c _ 1 12 12 13 rfl rfl (at_peer 12 (k0_dev43_lt c) (k0_dev43_eq c) rfl) O) $$ H
  iintro H
  iapply Hk; iexact H

end Cert.KernelIdeal.Norm

end
-- ==== Proof.Waiting.lean ====
/-
  The waits: for the sends of either half and for what the others sent, in turn.
-/
module

public import proofs.«01_k».proof.Proof.Local

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

variable (c : Dev nD)

theorem part21 (v127 : BitVec 32) (v139 : BitVec 32) {α : Type} {Q : α → sProp 𝕄}
    {f : (PUnit) → Prog (TpuEff nD τ sig (Elt F) Λ₀ .tc) α} :
    WaitSt m K c 0 0 0
      ⊢ iprop((∀ r, WaitSt m K c 0 2 1 -∗ Runs c (f r) Q)
          -∗ Runs c (k0_part21 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v127 v139 >>= f) Q) := by
  rw [k0_part21_eq_skeleton]; unfold k0_part21_skel
  simp only [semSignalWord, semWaitWord, Prog.lift, Prog.bind_op, Prog.bind_ret, Prog.pure_eq_ret, wp_deviceId]
  iintro H Hk
  iapply (sent_run m K c 0 0 0 1 rfl rfl 0) $$ H
  iintro H
  iapply (came_run m K c 0 0 0 1 rfl rfl 1) $$ H
  iintro H
  iapply (sent_run m K c 0 1 1 2 rfl rfl 1) $$ H
  iintro H
  iapply Hk; iexact H

theorem part22 (v151 : BitVec 32) {α : Type} {Q : α → sProp 𝕄}
    {f : (PUnit) → Prog (TpuEff nD τ sig (Elt F) Λ₀ .tc) α} :
    WaitSt m K c 0 2 1
      ⊢ iprop((∀ r, WaitSt m K c 0 3 3 -∗ Runs c (f r) Q)
          -∗ Runs c (k0_part22 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v151 >>= f) Q) := by
  rw [k0_part22_eq_skeleton]; unfold k0_part22_skel
  simp only [semSignalWord, semWaitWord, Prog.lift, Prog.bind_op, Prog.bind_ret, Prog.pure_eq_ret, wp_deviceId]
  iintro H Hk
  iapply (came_run m K c 0 1 1 2 rfl rfl 2) $$ H
  iintro H
  iapply (sent_run m K c 0 2 2 3 rfl rfl 2) $$ H
  iintro H
  iapply (came_run m K c 0 2 2 3 rfl rfl 3) $$ H
  iintro H
  iapply Hk; iexact H

theorem part23 (v163 : BitVec 32) (v175 : BitVec 32) {α : Type} {Q : α → sProp 𝕄}
    {f : (PUnit) → Prog (TpuEff nD τ sig (Elt F) Λ₀ .tc) α} :
    WaitSt m K c 0 3 3
      ⊢ iprop((∀ r, WaitSt m K c 0 5 4 -∗ Runs c (f r) Q)
          -∗ Runs c (k0_part23 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v163 v175 >>= f) Q) := by
  rw [k0_part23_eq_skeleton]; unfold k0_part23_skel
  simp only [semSignalWord, semWaitWord, Prog.lift, Prog.bind_op, Prog.bind_ret, Prog.pure_eq_ret, wp_deviceId]
  iintro H Hk
  iapply (sent_run m K c 0 3 3 4 rfl rfl 3) $$ H
  iintro H
  iapply (came_run m K c 0 3 3 4 rfl rfl 4) $$ H
  iintro H
  iapply (sent_run m K c 0 4 4 5 rfl rfl 4) $$ H
  iintro H
  iapply Hk; iexact H

theorem part24 (v187 : BitVec 32) {α : Type} {Q : α → sProp 𝕄}
    {f : (PUnit) → Prog (TpuEff nD τ sig (Elt F) Λ₀ .tc) α} :
    WaitSt m K c 0 5 4
      ⊢ iprop((∀ r, WaitSt m K c 0 7 6 -∗ Runs c (f r) Q)
          -∗ Runs c (k0_part24 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v187 >>= f) Q) := by
  rw [k0_part24_eq_skeleton]; unfold k0_part24_skel
  simp only [semSignalWord, semWaitWord, Prog.lift, Prog.bind_op, Prog.bind_ret, Prog.pure_eq_ret, wp_deviceId]
  iintro H Hk
  iapply (came_run m K c 0 4 4 5 rfl rfl 5) $$ H
  iintro H
  iapply (sent_run m K c 0 5 5 6 rfl rfl 5) $$ H
  iintro H
  iapply (came_run m K c 0 5 5 6 rfl rfl 6) $$ H
  iintro H
  iapply (sent_run m K c 0 6 6 7 rfl rfl 6) $$ H
  iintro H
  iapply Hk; iexact H

theorem part25 (v199 : BitVec 32) (v211 : BitVec 32) {α : Type} {Q : α → sProp 𝕄}
    {f : (PUnit) → Prog (TpuEff nD τ sig (Elt F) Λ₀ .tc) α} :
    WaitSt m K c 0 7 6
      ⊢ iprop((∀ r, WaitSt m K c 0 8 8 -∗ Runs c (f r) Q)
          -∗ Runs c (k0_part25 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v199 v211 >>= f) Q) := by
  rw [k0_part25_eq_skeleton]; unfold k0_part25_skel
  simp only [semSignalWord, semWaitWord, Prog.lift, Prog.bind_op, Prog.bind_ret, Prog.pure_eq_ret, wp_deviceId]
  iintro H Hk
  iapply (came_run m K c 0 6 6 7 rfl rfl 7) $$ H
  iintro H
  iapply (sent_run m K c 0 7 7 8 rfl rfl 7) $$ H
  iintro H
  iapply (came_run m K c 0 7 7 8 rfl rfl 8) $$ H
  iintro H
  iapply Hk; iexact H

theorem part26 (v223 : BitVec 32) {α : Type} {Q : α → sProp 𝕄}
    {f : (PUnit) → Prog (TpuEff nD τ sig (Elt F) Λ₀ .tc) α} :
    WaitSt m K c 0 8 8
      ⊢ iprop((∀ r, WaitSt m K c 0 10 9 -∗ Runs c (f r) Q)
          -∗ Runs c (k0_part26 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v223 >>= f) Q) := by
  rw [k0_part26_eq_skeleton]; unfold k0_part26_skel
  simp only [semSignalWord, semWaitWord, Prog.lift, Prog.bind_op, Prog.bind_ret, Prog.pure_eq_ret, wp_deviceId]
  iintro H Hk
  iapply (sent_run m K c 0 8 8 9 rfl rfl 8) $$ H
  iintro H
  iapply (came_run m K c 0 8 8 9 rfl rfl 9) $$ H
  iintro H
  iapply (sent_run m K c 0 9 9 10 rfl rfl 9) $$ H
  iintro H
  iapply Hk; iexact H

theorem part27 (v235 : BitVec 32) (v247 : BitVec 32) {α : Type} {Q : α → sProp 𝕄}
    {f : (PUnit) → Prog (TpuEff nD τ sig (Elt F) Λ₀ .tc) α} :
    WaitSt m K c 0 10 9
      ⊢ iprop((∀ r, WaitSt m K c 0 11 11 -∗ Runs c (f r) Q)
          -∗ Runs c (k0_part27 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v235 v247 >>= f) Q) := by
  rw [k0_part27_eq_skeleton]; unfold k0_part27_skel
  simp only [semSignalWord, semWaitWord, Prog.lift, Prog.bind_op, Prog.bind_ret, Prog.pure_eq_ret, wp_deviceId]
  iintro H Hk
  iapply (came_run m K c 0 9 9 10 rfl rfl 10) $$ H
  iintro H
  iapply (sent_run m K c 0 10 10 11 rfl rfl 10) $$ H
  iintro H
  iapply (came_run m K c 0 10 10 11 rfl rfl 11) $$ H
  iintro H
  iapply Hk; iexact H

theorem part28 (v259 : BitVec 32) {α : Type} {Q : α → sProp 𝕄}
    {f : (PUnit) → Prog (TpuEff nD τ sig (Elt F) Λ₀ .tc) α} :
    WaitSt m K c 0 11 11
      ⊢ iprop((∀ r, WaitSt m K c 0 13 12 -∗ Runs c (f r) Q)
          -∗ Runs c (k0_part28 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v259 >>= f) Q) := by
  rw [k0_part28_eq_skeleton]; unfold k0_part28_skel
  simp only [semSignalWord, semWaitWord, Prog.lift, Prog.bind_op, Prog.bind_ret, Prog.pure_eq_ret, wp_deviceId]
  iintro H Hk
  iapply (sent_run m K c 0 11 11 12 rfl rfl 11) $$ H
  iintro H
  iapply (came_run m K c 0 11 11 12 rfl rfl 12) $$ H
  iintro H
  iapply (sent_run m K c 0 12 12 13 rfl rfl 12) $$ H
  iintro H
  iapply Hk; iexact H

theorem part29 (v271 : BitVec 32) (v283 : BitVec 32) {α : Type} {Q : α → sProp 𝕄}
    {f : (PUnit) → Prog (TpuEff nD τ sig (Elt F) Λ₀ .tc) α} :
    WaitSt m K c 0 13 12
      ⊢ iprop((∀ r, WaitSt m K c 0 14 14 -∗ Runs c (f r) Q)
          -∗ Runs c (k0_part29 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v271 v283 >>= f) Q) := by
  rw [k0_part29_eq_skeleton]; unfold k0_part29_skel
  simp only [semSignalWord, semWaitWord, Prog.lift, Prog.bind_op, Prog.bind_ret, Prog.pure_eq_ret, wp_deviceId]
  iintro H Hk
  iapply (came_run m K c 0 12 12 13 rfl rfl 13) $$ H
  iintro H
  iapply (sent_run m K c 0 13 13 14 rfl rfl 13) $$ H
  iintro H
  iapply (came_run m K c 0 13 13 14 rfl rfl 14) $$ H
  iintro H
  iapply Hk; iexact H

theorem part33 (v361 : BitVec 32) (v373 : BitVec 32) {α : Type} {Q : α → sProp 𝕄}
    {f : (PUnit) → Prog (TpuEff nD τ sig (Elt F) Λ₀ .tc) α} :
    WaitSt m K c 1 2 1
      ⊢ iprop((∀ r, WaitSt m K c 1 3 3 -∗ Runs c (f r) Q)
          -∗ Runs c (k0_part33 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v361 v373 >>= f) Q) := by
  rw [k0_part33_eq_skeleton]; unfold k0_part33_skel
  simp only [semSignalWord, semWaitWord, Prog.lift, Prog.bind_op, Prog.bind_ret, Prog.pure_eq_ret, wp_deviceId]
  iintro H Hk
  iapply (came_run m K c 1 1 1 2 rfl rfl 2) $$ H
  iintro H
  iapply (sent_run m K c 1 2 2 3 rfl rfl 2) $$ H
  iintro H
  iapply (came_run m K c 1 2 2 3 rfl rfl 3) $$ H
  iintro H
  iapply Hk; iexact H

theorem part34 (v385 : BitVec 32) {α : Type} {Q : α → sProp 𝕄}
    {f : (PUnit) → Prog (TpuEff nD τ sig (Elt F) Λ₀ .tc) α} :
    WaitSt m K c 1 3 3
      ⊢ iprop((∀ r, WaitSt m K c 1 5 4 -∗ Runs c (f r) Q)
          -∗ Runs c (k0_part34 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v385 >>= f) Q) := by
  rw [k0_part34_eq_skeleton]; unfold k0_part34_skel
  simp only [semSignalWord, semWaitWord, Prog.lift, Prog.bind_op, Prog.bind_ret, Prog.pure_eq_ret, wp_deviceId]
  iintro H Hk
  iapply (sent_run m K c 1 3 3 4 rfl rfl 3) $$ H
  iintro H
  iapply (came_run m K c 1 3 3 4 rfl rfl 4) $$ H
  iintro H
  iapply (sent_run m K c 1 4 4 5 rfl rfl 4) $$ H
  iintro H
  iapply Hk; iexact H

theorem part35 (v397 : BitVec 32) (v409 : BitVec 32) {α : Type} {Q : α → sProp 𝕄}
    {f : (PUnit) → Prog (TpuEff nD τ sig (Elt F) Λ₀ .tc) α} :
    WaitSt m K c 1 5 4
      ⊢ iprop((∀ r, WaitSt m K c 1 6 6 -∗ Runs c (f r) Q)
          -∗ Runs c (k0_part35 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v397 v409 >>= f) Q) := by
  rw [k0_part35_eq_skeleton]; unfold k0_part35_skel
  simp only [semSignalWord, semWaitWord, Prog.lift, Prog.bind_op, Prog.bind_ret, Prog.pure_eq_ret, wp_deviceId]
  iintro H Hk
  iapply (came_run m K c 1 4 4 5 rfl rfl 5) $$ H
  iintro H
  iapply (sent_run m K c 1 5 5 6 rfl rfl 5) $$ H
  iintro H
  iapply (came_run m K c 1 5 5 6 rfl rfl 6) $$ H
  iintro H
  iapply Hk; iexact H

theorem part36 (v421 : BitVec 32) {α : Type} {Q : α → sProp 𝕄}
    {f : (BitVec 32) → Prog (TpuEff nD τ sig (Elt F) Λ₀ .tc) α} :
    WaitSt m K c 1 6 6
      ⊢ iprop((∀ r, WaitSt m K c 1 8 7 -∗ Runs c (f r) Q)
          -∗ Runs c (k0_part36 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v421 >>= f) Q) := by
  rw [k0_part36_eq_skeleton]; unfold k0_part36_skel
  simp only [semSignalWord, semWaitWord, Prog.lift, Prog.bind_op, Prog.bind_ret, Prog.pure_eq_ret, wp_deviceId]
  iintro H Hk
  iapply (sent_run m K c 1 6 6 7 rfl rfl 6) $$ H
  iintro H
  iapply (came_run m K c 1 6 6 7 rfl rfl 7) $$ H
  iintro H
  iapply (sent_run m K c 1 7 7 8 rfl rfl 7) $$ H
  iintro H
  iapply Hk; iexact H

theorem part37 (v433 : BitVec 32) (v445 : BitVec 32) (c1_i32_1116 : BitVec 32) {α : Type} {Q : α → sProp 𝕄}
    {f : (PUnit) → Prog (TpuEff nD τ sig (Elt F) Λ₀ .tc) α} :
    WaitSt m K c 1 8 7
      ⊢ iprop((∀ r, WaitSt m K c 1 9 9 -∗ Runs c (f r) Q)
          -∗ Runs c (k0_part37 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v433 v445 c1_i32_1116 >>= f) Q) := by
  rw [k0_part37_eq_skeleton]; unfold k0_part37_skel
  simp only [semSignalWord, semWaitWord, Prog.lift, Prog.bind_op, Prog.bind_ret, Prog.pure_eq_ret, wp_deviceId]
  iintro H Hk
  iapply (came_run m K c 1 7 7 8 rfl rfl 8) $$ H
  iintro H
  iapply (sent_run m K c 1 8 8 9 rfl rfl 8) $$ H
  iintro H
  iapply (came_run m K c 1 8 8 9 rfl rfl 9) $$ H
  iintro H
  iapply Hk; iexact H

theorem part38 (v457 : BitVec 32) (v469 : BitVec 32) {α : Type} {Q : α → sProp 𝕄}
    {f : (PUnit) → Prog (TpuEff nD τ sig (Elt F) Λ₀ .tc) α} :
    WaitSt m K c 1 9 9
      ⊢ iprop((∀ r, WaitSt m K c 1 11 10 -∗ Runs c (f r) Q)
          -∗ Runs c (k0_part38 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v457 v469 >>= f) Q) := by
  rw [k0_part38_eq_skeleton]; unfold k0_part38_skel
  simp only [semSignalWord, semWaitWord, Prog.lift, Prog.bind_op, Prog.bind_ret, Prog.pure_eq_ret, wp_deviceId]
  iintro H Hk
  iapply (sent_run m K c 1 9 9 10 rfl rfl 9) $$ H
  iintro H
  iapply (came_run m K c 1 9 9 10 rfl rfl 10) $$ H
  iintro H
  iapply (sent_run m K c 1 10 10 11 rfl rfl 10) $$ H
  iintro H
  iapply Hk; iexact H

theorem part39 (v481 : BitVec 32) {α : Type} {Q : α → sProp 𝕄}
    {f : (PUnit) → Prog (TpuEff nD τ sig (Elt F) Λ₀ .tc) α} :
    WaitSt m K c 1 11 10
      ⊢ iprop((∀ r, WaitSt m K c 1 12 12 -∗ Runs c (f r) Q)
          -∗ Runs c (k0_part39 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v481 >>= f) Q) := by
  rw [k0_part39_eq_skeleton]; unfold k0_part39_skel
  simp only [semSignalWord, semWaitWord, Prog.lift, Prog.bind_op, Prog.bind_ret, Prog.pure_eq_ret, wp_deviceId]
  iintro H Hk
  iapply (came_run m K c 1 10 10 11 rfl rfl 11) $$ H
  iintro H
  iapply (sent_run m K c 1 11 11 12 rfl rfl 11) $$ H
  iintro H
  iapply (came_run m K c 1 11 11 12 rfl rfl 12) $$ H
  iintro H
  iapply Hk; iexact H

theorem part40 (v493 : BitVec 32) (v505 : BitVec 32) {α : Type} {Q : α → sProp 𝕄}
    {f : (PUnit) → Prog (TpuEff nD τ sig (Elt F) Λ₀ .tc) α} :
    WaitSt m K c 1 12 12
      ⊢ iprop((∀ r, WaitSt m K c 1 14 13 -∗ Runs c (f r) Q)
          -∗ Runs c (k0_part40 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v493 v505 >>= f) Q) := by
  rw [k0_part40_eq_skeleton]; unfold k0_part40_skel
  simp only [semSignalWord, semWaitWord, Prog.lift, Prog.bind_op, Prog.bind_ret, Prog.pure_eq_ret, wp_deviceId]
  iintro H Hk
  iapply (sent_run m K c 1 12 12 13 rfl rfl 12) $$ H
  iintro H
  iapply (came_run m K c 1 12 12 13 rfl rfl 13) $$ H
  iintro H
  iapply (sent_run m K c 1 13 13 14 rfl rfl 13) $$ H
  iintro H
  iapply Hk; iexact H

end Cert.KernelIdeal.Norm

end
-- ==== Proof.Blocks.lean ====
/-
  The parts of the body that move blocks within the device: the input in, its statistics and its narrowed copy
  kept, and the result out.
-/
module

public import proofs.«01_k».proof.Proof.Turns

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

variable (c : Dev nD)

/-- The two vectors as staged. -/
def gPts (c : Dev nD) : sProp 𝕄 := ((c : Thread nD τ).loc cc0_stg0_0) ↦{fullShare} (gammaOf m c)
def bPts (c : Dev nD) : sProp 𝕄 := ((c : Thread nD τ).loc cc0_stg1_0) ↦{fullShare} (betaOf m c)

theorem gamma_read (c : Dev nD) {hl : gM.view.LoadsAt (Rect.unit (s := S1x1024) ![0, 0] S1x1024.size inb_S1x1024_S1x1024_0_0).toLoadRect}
    {α : Type} {Q : α → sProp 𝕄} {k : (S1x1024.Idx → Elt F .f32) → Prog (TpuEff nD τ sig (Elt F) Λ₀ .tc) α} :
    gPts m c
      ⊢ iprop((gPts m c -∗ Runs c (k (gammaOf m c)) Q)
          -∗ Runs c (.op (.load gM (Rect.unit (s := S1x1024) ![0, 0] S1x1024.size inb_S1x1024_S1x1024_0_0).toLoadRect hl) k) Q) := by
  unfold gPts
  iintro H Hk
  iapply (wp_load 𝒱₀ (c : Thread nD τ) none Set.univ (m := gM) (S := Finset.univ) (f := gammaOf m c) (Finset.subset_univ _)) $$ H
  iintro H
  rw [gamma_load]
  iapply Hk; iexact H

theorem beta_read (c : Dev nD) {hl : bM.view.LoadsAt (Rect.unit (s := S1x1024) ![0, 0] S1x1024.size inb_S1x1024_S1x1024_0_0).toLoadRect}
    {α : Type} {Q : α → sProp 𝕄} {k : (S1x1024.Idx → Elt F .f32) → Prog (TpuEff nD τ sig (Elt F) Λ₀ .tc) α} :
    bPts m c
      ⊢ iprop((bPts m c -∗ Runs c (k (betaOf m c)) Q)
          -∗ Runs c (.op (.load bM (Rect.unit (s := S1x1024) ![0, 0] S1x1024.size inb_S1x1024_S1x1024_0_0).toLoadRect hl) k) Q) := by
  unfold bPts
  iintro H Hk
  iapply (wp_load 𝒱₀ (c : Thread nD τ) none Set.univ (m := bM) (S := Finset.univ) (f := betaOf m c) (Finset.subset_univ _)) $$ H
  iintro H
  rw [beta_load]
  iapply Hk; iexact H

/-- The second block on its way in, the first one in and its statistics stored, the third on its way. -/
theorem part4 (O : CellTallies nD τ sig Unit) (hO : Above 0 O) (f₃ : Buf (Elt F) ((c : Thread nD τ).loc cc0_scratch3))  {α : Type} {Q : α → sProp 𝕄}
    {f : (PUnit) → Prog (TpuEff nD τ sig (Elt F) Λ₀ .tc) α} :
    iprop(env m K ∗ Owing c O ∗ InFlight m c 0 0 ∗ InIdle c 1 ∗ xPts m c 1 ∗ xPts m c 2 ∗ statPts c 0 0 fullShare f₃ ∗ ∃ g, keepPts c 0 g)
      ⊢ iprop((Owing c O ∗ InFlight m c 1 1 ∗ InFlight m c 2 0 ∗ xPts m c 0 ∗ statPts c 0 0 fullShare (stored m c 0 f₃) ∗ keepPts c 0 (keepF m c) -∗ Runs c (f ⟨⟩) Q)
          -∗ Runs c (k0_part4 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7  >>= f) Q) := by
  rw [k0_part4_eq_skeleton]; unfold k0_part4_skel
  simp only [semSignalWord, semWaitWord, Prog.lift, Prog.bind_op, Prog.bind_ret, Prog.pure_eq_ret, wp_deviceId]
  iintro ⟨#He, HO, Hi0, Hi1, Hx1, Hx2, Hs, Hg⟩ Hk
  iapply (in_start m c 1 1) $$ [Hi1 Hx1]
  · isplitl [Hi1]; · iexact Hi1
    iexact Hx1
  iintro Hi1
  iapply (in_wait m K c 0 0 O hO) $$ [HO Hi0]
  · isplitr; · iexact He
    isplitl [HO]; · iexact HO
    iexact Hi0
  iintro ⟨HO, Hi0, Hx0⟩
  iapply (in_read m c 0 0) $$ Hi0
  iintro Hi0
  iapply (block_step m c 0 0 rfl rfl rfl f₃) $$ [Hs Hg]
  · isplitl [Hs]; · iexact Hs
    iexact Hg
  iintro ⟨Hs, Hg⟩
  ihave Hi0 := (in_idle m c 0 0) $$ Hi0
  iapply (in_start m c 2 0) $$ [Hi0 Hx2]
  · isplitl [Hi0]; · iexact Hi0
    iexact Hx2
  iintro Hi0
  iapply Hk
  isplitl [HO]; · iexact HO
  isplitl [Hi1]; · iexact Hi1
  isplitl [Hi0]; · iexact Hi0
  isplitl [Hx0]; · iexact Hx0
  isplitl [Hs]; · iexact Hs
  iexact Hg

/-- The second block in and its statistics stored, the fourth on its way, and the barrier waited for. -/
theorem part5 (O : CellTallies nD τ sig Unit) (hO : Above 1 O) (f₃ : Buf (Elt F) ((c : Thread nD τ).loc cc0_scratch3)) (v2 : BitVec 32) {α : Type} {Q : α → sProp 𝕄}
    {f : (Σ' (v127 : BitVec 32), BitVec 32) → Prog (TpuEff nD τ sig (Elt F) Λ₀ .tc) α} :
    iprop(env m K ∗ Owing c O ∗ InFlight m c 1 1 ∗ xPts m c 3 ∗ statPts c 0 0 fullShare f₃ ∗ (∃ g, keepPts c 1 g) ∗ cred (tallyAt (cell c none) () 15) ∗ atPos ER (cell c none) 0 ∅ 0)
      ⊢ iprop((∀ r, Owing c O ∗ InFlight m c 3 1 ∗ xPts m c 1 ∗ statPts c 0 0 fullShare (stored m c 1 f₃) ∗ keepPts c 1 (keepF m c) ∗ Slots (F := F) c 0 ∗ Slots (F := F) c 1 ∗ semVal (cell c none) 0 -∗ Runs c (f r) Q)
          -∗ Runs c (k0_part5 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v2 (SemArray.scalar (sig.barrier 0 rfl)) >>= f) Q) := by
  rw [k0_part5_eq_skeleton]; unfold k0_part5_skel
  simp only [semSignalWord, semWaitWord, Prog.lift, Prog.bind_op, Prog.bind_ret, Prog.pure_eq_ret, wp_deviceId]
  iintro ⟨#He, HO, Hi, Hx3, Hs, Hg, Hc, Ha⟩ Hk
  iapply (in_wait m K c 1 1 O (hO.mono (Nat.zero_le 1))) $$ [HO Hi]
  · isplitr; · iexact He
    isplitl [HO]; · iexact HO
    iexact Hi
  iintro ⟨HO, Hi, Hx⟩
  iapply (in_read m c 1 1) $$ Hi
  iintro Hi
  iapply (block_step m c 1 0 rfl rfl rfl f₃) $$ [Hs Hg]
  · isplitl [Hs]; · iexact Hs
    iexact Hg
  iintro ⟨Hs, Hg⟩
  ihave Hi := (in_idle m c 1 1) $$ Hi
  iapply (in_start m c 3 1) $$ [Hi Hx3]
  · isplitl [Hi]; · iexact Hi
    iexact Hx3
  iintro Hi
  iapply (bar_wait_step m K c O hO rfl) $$ [HO Hc Ha]
  · isplitr; · iexact He
    isplitl [HO]; · iexact HO
    isplitl [Hc]; · iexact Hc
    iexact Ha
  iintro ⟨HO, Hp, Hz⟩
  ihave Hp := (Entails.of_eq (bar_slots c)) $$ Hp
  icases Hp with ⟨Hp, Hp1⟩
  iapply Hk
  isplitl [HO]; · iexact HO
  isplitl [Hi]; · iexact Hi
  isplitl [Hx]; · iexact Hx
  isplitl [Hs]; · iexact Hs
  isplitl [Hg]; · iexact Hg
  isplitl [Hp]; · iexact Hp
  isplitl [Hp1]; · iexact Hp1
  iexact Hz

/-- The last two sends of the first half, and the third block in. -/
theorem part12 (O : CellTallies nD τ sig Unit) (hO : Above 0 O) (v2 : BitVec 32) {α : Type} {Q : α → sProp 𝕄}
    {f : (Σ' (v295 : BitVec 32) (v312 : FVec F S1024x1024 .f32), FVec F S2x1024 .f32) → Prog (TpuEff nD τ sig (Elt F) Λ₀ .tc) α} :
    iprop(env m K ∗ SendSt m K c 0 O 13 ∗ InFlight m c 2 0)
      ⊢ iprop((∀ n, Owing c O ∗ SentCreds (F := F) c 0 ∗ InHeld m c 2 0 ∗ xPts m c 2 -∗ Runs c (f ⟨n, k0_pay7 (inV m c 2), k0_pay8 (inV m c 2)⟩) Q)
          -∗ Runs c (k0_part12 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 c v2 >>= f) Q) := by
  rw [k0_part12_eq_skeleton]; unfold k0_part12_skel
  simp only [semSignalWord, semWaitWord, Prog.lift, Prog.bind_op, Prog.bind_ret, Prog.pure_eq_ret, wp_deviceId]
  iintro ⟨#He, H, Hi⟩ Hk
  iapply (send_run m K c _ 0 13 13 14 rfl rfl (at_peer 13 (k0_dev29_lt c) (k0_dev29_eq c) rfl) O) $$ H
  iintro H
  iapply (send_run m K c _ 0 14 14 15 rfl rfl (at_peer 14 (k0_dev30_lt c) (k0_dev30_eq c) rfl) O) $$ H
  iintro H
  ihave H := (sends_done m K c 0 O) $$ H
  icases H with ⟨HO, Hc⟩
  iapply (in_wait m K c 2 0 O hO) $$ [HO Hi]
  · isplitr; · iexact He
    isplitl [HO]; · iexact HO
    iexact Hi
  iintro ⟨HO, Hi, Hx⟩
  iapply (in_read m c 2 0) $$ Hi
  iintro Hi
  iapply Hk
  isplitl [HO]; · iexact HO
  isplitl [Hc]; · iexact Hc
  isplitl [Hi]; · iexact Hi
  iexact Hx

/-- The third block's statistics stored, the fourth one in and its statistics stored. -/
theorem part13 (O : CellTallies nD τ sig Unit) (hO : Above 0 O) (f₃ : Buf (Elt F) ((c : Thread nD τ).loc cc0_scratch3)) (v2 : BitVec 32) {α : Type} {Q : α → sProp 𝕄}
    {f : (BitVec 32) → Prog (TpuEff nD τ sig (Elt F) Λ₀ .tc) α} :
    iprop(env m K ∗ Owing c O ∗ InFlight m c 3 1 ∗ statPts c 0 1 fullShare f₃ ∗ (∃ g, keepPts c 2 g) ∗ (∃ g, keepPts c 3 g))
      ⊢ iprop((∀ r, Owing c O ∗ InHeld m c 3 1 ∗ xPts m c 3 ∗ statPts c 0 1 fullShare (stored m c 3 (stored m c 2 f₃)) ∗ keepPts c 2 (keepF m c) ∗ keepPts c 3 (keepF m c) -∗ Runs c (f r) Q)
          -∗ Runs c (k0_part13 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v2 (k0_pay7 (inV m c 2)) (k0_pay8 (inV m c 2)) >>= f) Q) := by
  rw [k0_part13_eq_skeleton]; unfold k0_part13_skel
  simp only [semSignalWord, semWaitWord, Prog.lift, Prog.bind_op, Prog.bind_ret, Prog.pure_eq_ret, wp_deviceId]
  iintro ⟨#He, HO, Hi, Hs, Hg, Hg'⟩ Hk
  iapply (block_step m c 2 1 rfl rfl rfl f₃) $$ [Hs Hg]
  · isplitl [Hs]; · iexact Hs
    iexact Hg
  iintro ⟨Hs, Hg⟩
  iapply (in_wait m K c 3 1 O hO) $$ [HO Hi]
  · isplitr; · iexact He
    isplitl [HO]; · iexact HO
    iexact Hi
  iintro ⟨HO, Hi, Hx⟩
  iapply (in_read m c 3 1) $$ Hi
  iintro Hi
  iapply (block_step m c 3 1 rfl rfl rfl (stored m c 2 f₃)) $$ [Hs Hg']
  · isplitl [Hs]; · iexact Hs
    iexact Hg'
  iintro ⟨Hs, Hg'⟩
  iapply Hk
  isplitl [HO]; · iexact HO
  isplitl [Hi]; · iexact Hi
  isplitl [Hx]; · iexact Hx
  isplitl [Hs]; · iexact Hs
  isplitl [Hg]; · iexact Hg
  iexact Hg'

/-- The last two sends of the second half, and the two vectors read. -/
theorem part20 (O : CellTallies nD τ sig Unit) (v2 : BitVec 32) {α : Type} {Q : α → sProp 𝕄}
    {f : (Σ' (v517 : BitVec 32) (v530 : FVec F S1x1024 .f32), FVec F S1x1024 .f32) → Prog (TpuEff nD τ sig (Elt F) Λ₀ .tc) α} :
    iprop(SendSt m K c 1 O 13 ∗ gPts m c ∗ bPts m c)
      ⊢ iprop((∀ n, SendSt m K c 1 O 15 ∗ gPts m c ∗ bPts m c -∗ Runs c (f ⟨n, k0_pay14 (gammaOf m c), k0_pay15 (betaOf m c)⟩) Q)
          -∗ Runs c (k0_part20 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 c v2 >>= f) Q) := by
  rw [k0_part20_eq_skeleton]; unfold k0_part20_skel
  simp only [semSignalWord, semWaitWord, Prog.lift, Prog.bind_op, Prog.bind_ret, Prog.pure_eq_ret, wp_deviceId]
  iintro ⟨H, Hg, Hb⟩ Hk
  iapply (send_run m K c _ 1 13 13 14 rfl rfl (at_peer 13 (k0_dev44_lt c) (k0_dev44_eq c) rfl) O) $$ H
  iintro H
  iapply (send_run m K c _ 1 14 14 15 rfl rfl (at_peer 14 (k0_dev45_lt c) (k0_dev45_eq c) rfl) O) $$ H
  iintro H
  iapply (gamma_read m c) $$ Hg
  iintro Hg
  iapply (beta_read m c) $$ Hb
  iintro Hb
  iapply Hk
  isplitl [H]; · iexact H
  isplitl [Hg]; · iexact Hg
  iexact Hb

/-- The last waits of the first half, and its statistics read. -/
theorem part30 (v295 : BitVec 32) {α : Type} {Q : α → sProp 𝕄}
    {f : (Σ' (v749 : FVec F S2048x1 .f32) (v757 : FVec F S2048x1 .f32) (v759 : FVec F S1024x1024 .f32) (v760 : FVec F S1024x1 .f32), FVec F S1024x1 .f32) → Prog (TpuEff nD τ sig (Elt F) Λ₀ .tc) α} :
    iprop(WaitSt m K c 0 14 14 ∗ keepPts c 0 (keepF m c))
      ⊢ iprop((Owing c 0 ∗ halfPts m c 0 ∗ Drained (F := F) c 0 ∗ keepPts c 0 (keepF m c) -∗ Runs c (f ⟨k0_pay17 (halfV m c 0), k0_pay18 (halfV m c 0), k0_pay19 (keepV m c 0), k0_pay20 (halfV m c 0), k0_pay21 (halfV m c 0)⟩) Q)
          -∗ Runs c (k0_part30 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v295 >>= f) Q) := by
  rw [k0_part30_eq_skeleton]; unfold k0_part30_skel
  simp only [semSignalWord, semWaitWord, Prog.lift, Prog.bind_op, Prog.bind_ret, Prog.pure_eq_ret, wp_deviceId]
  iintro ⟨H, Hg⟩ Hk
  iapply (sent_run m K c 0 14 14 15 rfl rfl 14) $$ H
  iintro H
  iapply (came_run m K c 0 14 14 15 rfl rfl 15) $$ H
  iintro H
  ihave H := (waits_done m K c 0) $$ H
  icases H with ⟨HO, Hh, Hz⟩
  iapply (half_read m c 0) $$ Hh
  iintro Hh
  iapply (keep_read m c 0) $$ Hg
  iintro Hg
  iapply Hk
  isplitl [HO]; · iexact HO
  isplitl [Hh]; · iexact Hh
  isplitl [Hz]; · iexact Hz
  iexact Hg

/-- The first block of the result on its way out, the second in its slot. -/
theorem part31  {α : Type} {Q : α → sProp 𝕄}
    {f : (PUnit) → Prog (TpuEff nD τ sig (Elt F) Λ₀ .tc) α} :
    iprop(OutIdle c 0 ∗ OutIdle c 1 ∗ (∃ f, yPts c 0 f) ∗ keepPts c 1 (keepF m c))
      ⊢ iprop((OutFlight m c 0 0 ∗ OutHeld m c 1 1 ∗ keepPts c 1 (keepF m c) -∗ Runs c (f ⟨⟩) Q)
          -∗ Runs c (k0_part31 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 (k0_pay14 (gammaOf m c)) (k0_pay15 (betaOf m c)) (k0_pay17 (halfV m c 0)) (k0_pay18 (halfV m c 0)) (k0_pay19 (keepV m c 0)) (k0_pay20 (halfV m c 0)) (k0_pay21 (halfV m c 0)) >>= f) Q) := by
  rw [k0_part31_eq_skeleton]; unfold k0_part31_skel
  simp only [semSignalWord, semWaitWord, Prog.lift, Prog.bind_op, Prog.bind_ret, Prog.pure_eq_ret, wp_deviceId]
  iintro ⟨H0, H1, Hy, Hg⟩ Hk
  iapply (out_fill m c 0 0 rfl) $$ H0
  iintro H0
  iapply (out_start m c 0 0) $$ [H0 Hy]
  · isplitl [H0]; · iexact H0
    iexact Hy
  iintro H0
  iapply (keep_read m c 1) $$ Hg
  iintro Hg
  iapply (out_fill m c 1 1 rfl) $$ H1
  iintro H1
  iapply Hk
  isplitl [H0]; · iexact H0
  isplitl [H1]; · iexact H1
  iexact Hg

/-- The second block on its way out, and the first waits of the second half. -/
theorem part32 (v349 : BitVec 32) {α : Type} {Q : α → sProp 𝕄}
    {f : (PUnit) → Prog (TpuEff nD τ sig (Elt F) Λ₀ .tc) α} :
    iprop(OutHeld m c 1 1 ∗ (∃ f, yPts c 1 f) ∗ WaitSt m K c 1 0 0)
      ⊢ iprop((OutFlight m c 1 1 ∗ WaitSt m K c 1 2 1 -∗ Runs c (f ⟨⟩) Q)
          -∗ Runs c (k0_part32 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v349 >>= f) Q) := by
  rw [k0_part32_eq_skeleton]; unfold k0_part32_skel
  simp only [semSignalWord, semWaitWord, Prog.lift, Prog.bind_op, Prog.bind_ret, Prog.pure_eq_ret, wp_deviceId]
  iintro ⟨H1, Hy, H⟩ Hk
  iapply (out_start m c 1 1) $$ [H1 Hy]
  · isplitl [H1]; · iexact H1
    iexact Hy
  iintro H1
  iapply (sent_run m K c 1 0 0 1 rfl rfl 0) $$ H
  iintro H
  iapply (came_run m K c 1 0 0 1 rfl rfl 1) $$ H
  iintro H
  iapply (sent_run m K c 1 1 1 2 rfl rfl 1) $$ H
  iintro H
  iapply Hk
  isplitl [H1]; · iexact H1
  iexact H

/-- The last waits of the second half, and its statistics read. -/
theorem part41 (v517 : BitVec 32) {α : Type} {Q : α → sProp 𝕄}
    {f : (Σ' (v1015 : FVec F S2048x1 .f32) (v1016 : FVec F S2048x1 .f32), F .f32) → Prog (TpuEff nD τ sig (Elt F) Λ₀ .tc) α} :
    WaitSt m K c 1 14 13
      ⊢ iprop((Owing c 0 ∗ halfPts m c 1 ∗ Drained (F := F) c 1 -∗ Runs c (f ⟨k0_pay25 (halfV m c 1), k0_pay26 (halfV m c 1), widthV⟩) Q)
          -∗ Runs c (k0_part41 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 v517 >>= f) Q) := by
  rw [k0_part41_eq_skeleton]; unfold k0_part41_skel
  simp only [semSignalWord, semWaitWord, Prog.lift, Prog.bind_op, Prog.bind_ret, Prog.pure_eq_ret, wp_deviceId]
  iintro H Hk
  iapply (came_run m K c 1 13 13 14 rfl rfl 14) $$ H
  iintro H
  iapply (sent_run m K c 1 14 14 15 rfl rfl 14) $$ H
  iintro H
  iapply (came_run m K c 1 14 14 15 rfl rfl 15) $$ H
  iintro H
  ihave H := (waits_done m K c 1) $$ H
  icases H with ⟨HO, Hh, Hz⟩
  iapply (half_read m c 1) $$ Hh
  iintro Hh
  iapply Hk
  isplitl [HO]; · iexact HO
  isplitl [Hh]; · iexact Hh
  iexact Hz

/-- The first block out, the third on its way. -/
theorem part42  {α : Type} {Q : α → sProp 𝕄}
    {f : (FVec F S2048x1 .f32) → Prog (TpuEff nD τ sig (Elt F) Λ₀ .tc) α} :
    iprop(Owing c 0 ∗ OutFlight m c 0 0 ∗ (∃ f, yPts c 2 f) ∗ keepPts c 2 (keepF m c))
      ⊢ iprop((Owing c 0 ∗ yPts c 0 (outF m c) ∗ OutFlight m c 2 0 ∗ keepPts c 2 (keepF m c) -∗ Runs c (f (k0_pay27 (k0_pay25 (halfV m c 1)) (k0_pay26 (halfV m c 1)) widthV)) Q)
          -∗ Runs c (k0_part42 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 (k0_pay14 (gammaOf m c)) (k0_pay15 (betaOf m c)) (k0_pay25 (halfV m c 1)) (k0_pay26 (halfV m c 1)) widthV >>= f) Q) := by
  rw [k0_part42_eq_skeleton]; unfold k0_part42_skel
  simp only [semSignalWord, semWaitWord, Prog.lift, Prog.bind_op, Prog.bind_ret, Prog.pure_eq_ret, wp_deviceId]
  iintro ⟨HO, H0, Hy, Hg⟩ Hk
  iapply (out_wait m c 0 0) $$ [HO H0]
  · isplitl [HO]; · iexact HO
    iexact H0
  iintro ⟨HO, H0, Hy0⟩
  iapply (keep_read m c 2) $$ Hg
  iintro Hg
  iapply (out_fill m c 2 0 rfl) $$ H0
  iintro H0
  iapply (out_start m c 2 0) $$ [H0 Hy]
  · isplitl [H0]; · iexact H0
    iexact Hy
  iintro H0
  iapply Hk
  isplitl [HO]; · iexact HO
  isplitl [Hy0]; · iexact Hy0
  isplitl [H0]; · iexact H0
  iexact Hg

/-- The second block out, the fourth on its way, the third out. -/
theorem part43  {α : Type} {Q : α → sProp 𝕄}
    {f : (PUnit) → Prog (TpuEff nD τ sig (Elt F) Λ₀ .tc) α} :
    iprop(Owing c 0 ∗ OutFlight m c 1 1 ∗ OutFlight m c 2 0 ∗ (∃ f, yPts c 3 f) ∗ keepPts c 3 (keepF m c))
      ⊢ iprop((Owing c 0 ∗ yPts c 1 (outF m c) ∗ OutFlight m c 3 1 ∗ OutIdle c 0 ∗ yPts c 2 (outF m c) ∗ keepPts c 3 (keepF m c) -∗ Runs c (f ⟨⟩) Q)
          -∗ Runs c (k0_part43 xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7 (k0_pay14 (gammaOf m c)) (k0_pay15 (betaOf m c)) (k0_pay25 (halfV m c 1)) (k0_pay27 (k0_pay25 (halfV m c 1)) (k0_pay26 (halfV m c 1)) widthV) >>= f) Q) := by
  rw [k0_part43_eq_skeleton]; unfold k0_part43_skel
  simp only [semSignalWord, semWaitWord, Prog.lift, Prog.bind_op, Prog.bind_ret, Prog.pure_eq_ret, wp_deviceId]
  iintro ⟨HO, H1, H0, Hy, Hg⟩ Hk
  iapply (out_wait m c 1 1) $$ [HO H1]
  · isplitl [HO]; · iexact HO
    iexact H1
  iintro ⟨HO, H1, Hy1⟩
  iapply (keep_read m c 3) $$ Hg
  iintro Hg
  iapply (out_fill m c 3 1 rfl) $$ H1
  iintro H1
  iapply (out_start m c 3 1) $$ [H1 Hy]
  · isplitl [H1]; · iexact H1
    iexact Hy
  iintro H1
  iapply (out_wait m c 2 0) $$ [HO H0]
  · isplitl [HO]; · iexact HO
    iexact H0
  iintro ⟨HO, H0, Hy2⟩
  iapply Hk
  isplitl [HO]; · iexact HO
  isplitl [Hy1]; · iexact Hy1
  isplitl [H1]; · iexact H1
  isplitl [H0]; · iexact H0
  isplitl [Hy2]; · iexact Hy2
  iexact Hg

end Cert.KernelIdeal.Norm

end
-- ==== Proof.Body.lean ====
/-
  The whole body, run from what a device has at its start to what it has at its end.
-/
module

public import proofs.«01_k».proof.Proof.Signalling
public import proofs.«01_k».proof.Proof.Sending
public import proofs.«01_k».proof.Proof.Waiting
public import proofs.«01_k».proof.Proof.Blocks

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

variable (c : Dev nD)

/-- The four pieces of the input, of the kept block, of the result. -/
def xAll (c : Dev nD) : sProp 𝕄 := iprop(xPts m c 0 ∗ xPts m c 1 ∗ xPts m c 2 ∗ xPts m c 3)
def keepAny (c : Dev nD) : sProp 𝕄 := iprop((∃ g, keepPts (F := F) c 0 g) ∗ (∃ g, keepPts (F := F) c 1 g) ∗ (∃ g, keepPts (F := F) c 2 g) ∗ (∃ g, keepPts (F := F) c 3 g))
def keepAll (c : Dev nD) : sProp 𝕄 := iprop(keepPts c 0 (keepF m c) ∗ keepPts c 1 (keepF m c) ∗ keepPts c 2 (keepF m c) ∗ keepPts c 3 (keepF m c))
def yAny (c : Dev nD) : sProp 𝕄 := iprop((∃ g, yPts (F := F) c 0 g) ∗ (∃ g, yPts (F := F) c 1 g) ∗ (∃ g, yPts (F := F) c 2 g) ∗ (∃ g, yPts (F := F) c 3 g))
def yAll (c : Dev nD) : sProp 𝕄 := iprop(yPts c 0 (outF m c) ∗ yPts c 1 (outF m c) ∗ yPts c 2 (outF m c) ∗ yPts c 3 (outF m c))

/-- What a device starts with of the shared semaphores: its duties, its place at each, and what is owed to it. -/
def Shared (c : Dev nD) : sProp 𝕄 :=
  iprop(Signals (F := F) c 0 ∗ cred (tallyAt (cell c none) () 15) ∗ atPos ER (cell c none) 0 ∅ 0
    ∗ SendUses (F := F) c 0 ∗ SendUses (F := F) c 1 ∗ CameCreds (F := F) c 0 ∗ CameCreds (F := F) c 1
    ∗ Turns (F := F) c false 0 ∗ Turns (F := F) c true 0 ∗ Turns (F := F) c false 1 ∗ Turns (F := F) c true 1)
/-- What it starts with of its buffers. -/
def Held (c : Dev nD) : sProp 𝕄 :=
  iprop(InIdle (F := F) c 0 ∗ InIdle (F := F) c 1 ∗ OutIdle (F := F) c 0 ∗ OutIdle (F := F) c 1
    ∗ (∃ f, statPts (F := F) c 0 0 fullShare f) ∗ (∃ f, statPts (F := F) c 0 1 fullShare f)
    ∗ xAll m c ∗ keepAny (F := F) c ∗ yAny (F := F) c)
/-- What it ends with: every semaphore at zero, the result in its buffer. -/
def Ended (c : Dev nD) : sProp 𝕄 :=
  iprop(semVal (cell c none) 0 ∗ Drained (F := F) c 0 ∗ Drained (F := F) c 1
    ∗ InIdle (F := F) c 0 ∗ InIdle (F := F) c 1 ∗ OutIdle (F := F) c 0 ∗ OutIdle (F := F) c 1
    ∗ halfPts m c 0 ∗ halfPts m c 1 ∗ xAll m c ∗ keepAll m c ∗ yAll m c)

/-- The body, from its start to its end. -/
theorem body_runs {Q : PUnit → sProp 𝕄} :
    iprop(env m K ∗ Owing c (O₀ c) ∗ Shared (F := F) c ∗ Held m c ∗ gPts m c ∗ bPts m c)
      ⊢ iprop((Owing c 0 ∗ Ended m c ∗ gPts m c ∗ bPts m c -∗ Q ⟨⟩)
          -∗ Runs c (cc0_body xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7) Q) := by
  rw [cc0_body_eq_skeleton]; unfold cc0_body_skel Shared Held xAll keepAny yAny
  simp only [Prog.lift, Prog.bind_op, Prog.bind_ret, Prog.pure_eq_ret]
  have hO : Above 1 (owesHalf c 1 0 + owesHalf c 0 0) := (above_half (by decide) c 1 0).add (above_half (by decide) c 0 0)
  iintro ⟨#He, HO, ⟨Hsig, Hbc, Hba, Hu0, Hu1, Hc0, Hc1, Ts0, Tr0, Ts1, Tr1⟩, ⟨Hi0, Hi1, Ho0, Ho1, ⟨%f₀, Hs0⟩, ⟨%f₁, Hs1⟩, ⟨Hx0, Hx1, Hx2, Hx3⟩, ⟨Hk0, Hk1, Hk2, Hk3⟩, ⟨Hy0, Hy1, Hy2, Hy3⟩⟩, Hg, Hb⟩ Hk
  ihave H := (show iprop(env m K ∗ Owing c (O₀ c) ∗ Signals (F := F) c 0) ⊢ SigSt m K c (owesHalf c 1 0 + owesHalf c 0 0) 0 from Entails.of_eq rfl) $$ [HO Hsig]
  · isplitr; · iexact He
    isplitl [HO] <;> iassumption
  iapply (part1 m K c (owesHalf c 1 0 + owesHalf c 0 0)) $$ H
  iintro %v2 %v24 %n1 H
  try dsimp only
  iapply (part2 m K c (owesHalf c 1 0 + owesHalf c 0 0) v2 v24 n1) $$ H
  iintro %r H
  obtain ⟨v48, n2⟩ := r
  try dsimp only
  iapply (part3 m K c (owesHalf c 1 0 + owesHalf c 0 0) v2 v48 n2) $$ [H Hi0 Hx0]
  · isplitl [H]; · iexact H
    isplitl [Hi0]; · iexact Hi0
    iexact Hx0
  iintro ⟨H, Hi0⟩
  try dsimp only
  ihave HO := (sig_done (F := F) m K c (owesHalf c 1 0 + owesHalf c 0 0)) $$ H
  iapply (part4 m K c (owesHalf c 1 0 + owesHalf c 0 0) (hO.mono (Nat.zero_le 1)) f₀) $$ [HO Hi0 Hi1 Hx1 Hx2 Hs0 Hk0]
  · isplitr; · iexact He
    isplitl [HO]; · iexact HO
    isplitl [Hi0]; · iexact Hi0
    isplitl [Hi1]; · iexact Hi1
    isplitl [Hx1]; · iexact Hx1
    isplitl [Hx2]; · iexact Hx2
    isplitl [Hs0]; · iexact Hs0
    iexact Hk0
  iintro ⟨HO, Hi1, Hi0, Hx0, Hs0, Hk0⟩
  try dsimp only
  iapply (part5 m K c (owesHalf c 1 0 + owesHalf c 0 0) hO (stored m c 0 f₀) v2) $$ [HO Hi1 Hx3 Hs0 Hk1 Hbc Hba]
  · isplitr; · iexact He
    isplitl [HO]; · iexact HO
    isplitl [Hi1]; · iexact Hi1
    isplitl [Hx3]; · iexact Hx3
    isplitl [Hs0]; · iexact Hs0
    isplitl [Hk1]; · iexact Hk1
    isplitl [Hbc]; · iexact Hbc
    iexact Hba
  iintro %r ⟨HO, Hi1, Hx1, Hs0, Hk1, Hp0, Hp1, Hz⟩
  obtain ⟨v127, v128⟩ := r
  try dsimp only
  ihave Hs0 := (Entails.of_eq (own_stored m c 0 0 1 rfl rfl f₀)) $$ Hs0
  ihave H := (sends_start (F := F) m K c 0 (owesHalf c 1 0)) $$ [HO Hu0 Hp0 Hs0]
  · isplitr; · iexact He
    isplitl [HO]; · iexact HO
    isplitl [Hu0]; · iexact Hu0
    isplitl [Hp0] <;> iassumption
  iapply (part6 m K c (owesHalf c 1 0) v2 v128) $$ H
  iintro %r H
  obtain ⟨v139, v151⟩ := r
  try dsimp only
  iapply (part7 m K c (owesHalf c 1 0) v2) $$ H
  iintro %r H
  obtain ⟨v163, v175⟩ := r
  try dsimp only
  iapply (part8 m K c (owesHalf c 1 0) v2) $$ H
  iintro %r H
  obtain ⟨v187, v199, v210, c8⟩ := r
  try dsimp only
  iapply (part9 m K c (owesHalf c 1 0) v2 v210 c8) $$ H
  iintro %r H
  obtain ⟨v211, v223, v235⟩ := r
  try dsimp only
  iapply (part10 m K c (owesHalf c 1 0) v2 v235) $$ H
  iintro %r H
  obtain ⟨v247, v259⟩ := r
  try dsimp only
  iapply (part11 m K c (owesHalf c 1 0) v2) $$ H
  iintro %r H
  obtain ⟨v271, v283⟩ := r
  try dsimp only
  iapply (part12 m K c (owesHalf c 1 0) (above_half (by decide) c 1 0) v2) $$ [H Hi0]
  · isplitr; · iexact He
    isplitl [H]; · iexact H
    iexact Hi0
  iintro %v295 ⟨HO, Hsc0, Hi0, Hx2⟩
  try dsimp only
  iapply (part13 m K c (owesHalf c 1 0) (above_half (by decide) c 1 0) f₁ v2) $$ [HO Hi1 Hs1 Hk2 Hk3]
  · isplitr; · iexact He
    isplitl [HO]; · iexact HO
    isplitl [Hi1]; · iexact Hi1
    isplitl [Hs1]; · iexact Hs1
    isplitl [Hk2]; · iexact Hk2
    iexact Hk3
  iintro %v349 ⟨HO, Hi1, Hx3, Hs1, Hk2, Hk3⟩
  try dsimp only
  ihave Hs1 := (Entails.of_eq (own_stored m c 1 2 3 rfl rfl f₁)) $$ Hs1
  ihave H := (sends_start (F := F) m K c 1 0) $$ [HO Hu1 Hp1 Hs1]
  · isplitr; · iexact He
    isplitl [HO]; · rw [zero_add]; iexact HO
    isplitl [Hu1]; · iexact Hu1
    isplitl [Hp1] <;> iassumption
  iapply (part14 m K c 0 v2 v349) $$ H
  iintro %r H
  obtain ⟨v361, v373, v374, c14⟩ := r
  try dsimp only
  iapply (part15 m K c 0 v2 v374 c14) $$ H
  iintro %r H
  obtain ⟨v385, v397⟩ := r
  try dsimp only
  iapply (part16 m K c 0 v2) $$ H
  iintro %r H
  obtain ⟨v409, v421⟩ := r
  try dsimp only
  iapply (part17 m K c 0 v2) $$ H
  iintro %r H
  obtain ⟨v433, v445, v457⟩ := r
  try dsimp only
  iapply (part18 m K c 0 v2 v457) $$ H
  iintro %r H
  obtain ⟨v469, v481⟩ := r
  try dsimp only
  iapply (part19 m K c 0 v2 v481) $$ H
  iintro %r H
  obtain ⟨v493, v505⟩ := r
  try dsimp only
  iapply (part20 m K c 0 v2) $$ [H Hg Hb]
  · isplitl [H]; · iexact H
    isplitl [Hg]; · iexact Hg
    iexact Hb
  iintro %v517 ⟨H, Hg, Hb⟩
  try dsimp only
  ihave H := (sends_done (F := F) m K c 1 0) $$ H
  icases H with ⟨HO, Hsc1⟩
  ihave H := (waits_start (F := F) m K c 0) $$ [HO Hsc0 Hc0 Ts0 Tr0]
  · isplitr; · iexact He
    isplitl [HO]; · iexact HO
    isplitl [Hsc0]; · iexact Hsc0
    isplitl [Hc0]; · iexact Hc0
    isplitl [Ts0] <;> iassumption
  iapply (part21 m K c v127 v139) $$ H
  iintro %_ H
  try dsimp only
  iapply (part22 m K c v151) $$ H
  iintro %_ H
  try dsimp only
  iapply (part23 m K c v163 v175) $$ H
  iintro %_ H
  try dsimp only
  iapply (part24 m K c v187) $$ H
  iintro %_ H
  try dsimp only
  iapply (part25 m K c v199 v211) $$ H
  iintro %_ H
  try dsimp only
  iapply (part26 m K c v223) $$ H
  iintro %_ H
  try dsimp only
  iapply (part27 m K c v235 v247) $$ H
  iintro %_ H
  try dsimp only
  iapply (part28 m K c v259) $$ H
  iintro %_ H
  try dsimp only
  iapply (part29 m K c v271 v283) $$ H
  iintro %_ H
  try dsimp only
  iapply (part30 m K c v295) $$ [H Hk0]
  · isplitl [H]; · iexact H
    iexact Hk0
  iintro ⟨HO, Hh0, Hd0, Hk0⟩
  try dsimp only
  iapply (part31 m c) $$ [Ho0 Ho1 Hy0 Hk1]
  · isplitl [Ho0]; · iexact Ho0
    isplitl [Ho1]; · iexact Ho1
    isplitl [Hy0]; · iexact Hy0
    iexact Hk1
  iintro ⟨Ho0, Ho1, Hk1⟩
  try dsimp only
  ihave H := (waits_start (F := F) m K c 1) $$ [HO Hsc1 Hc1 Ts1 Tr1]
  · isplitr; · iexact He
    isplitl [HO]; · iexact HO
    isplitl [Hsc1]; · iexact Hsc1
    isplitl [Hc1]; · iexact Hc1
    isplitl [Ts1] <;> iassumption
  iapply (part32 m K c v349) $$ [Ho1 Hy1 H]
  · isplitl [Ho1]; · iexact Ho1
    isplitl [Hy1]; · iexact Hy1
    iexact H
  iintro ⟨Ho1, H⟩
  try dsimp only
  iapply (part33 m K c v361 v373) $$ H
  iintro %_ H
  try dsimp only
  iapply (part34 m K c v385) $$ H
  iintro %_ H
  try dsimp only
  iapply (part35 m K c v397 v409) $$ H
  iintro %_ H
  try dsimp only
  iapply (part36 m K c v421) $$ H
  iintro %c36 H
  try dsimp only
  iapply (part37 m K c v433 v445 c36) $$ H
  iintro %_ H
  try dsimp only
  iapply (part38 m K c v457 v469) $$ H
  iintro %_ H
  try dsimp only
  iapply (part39 m K c v481) $$ H
  iintro %_ H
  try dsimp only
  iapply (part40 m K c v493 v505) $$ H
  iintro %_ H
  try dsimp only
  iapply (part41 m K c v517) $$ H
  iintro ⟨HO, Hh1, Hd1⟩
  try dsimp only
  iapply (part42 m c) $$ [HO Ho0 Hy2 Hk2]
  · isplitl [HO]; · iexact HO
    isplitl [Ho0]; · iexact Ho0
    isplitl [Hy2]; · iexact Hy2
    iexact Hk2
  iintro ⟨HO, Hy0, Ho0, Hk2⟩
  try dsimp only
  iapply (part43 m c) $$ [HO Ho1 Ho0 Hy3 Hk3]
  · isplitl [HO]; · iexact HO
    isplitl [Ho1]; · iexact Ho1
    isplitl [Ho0]; · iexact Ho0
    isplitl [Hy3]; · iexact Hy3
    iexact Hk3
  iintro ⟨HO, Hy1, Ho1, Ho0, Hy2, Hk3⟩
  try dsimp only
  iapply (out_wait m c 3 1) $$ [HO Ho1]
  · isplitl [HO]; · iexact HO
    iexact Ho1
  iintro ⟨HO, Ho1, Hy3⟩
  ihave Hi0 := (in_idle m c 2 0) $$ Hi0
  ihave Hi1 := (in_idle m c 3 1) $$ Hi1
  unfold Runs; rw [wp_ret]; imodintro
  iapply Hk
  unfold Ended xAll keepAll yAll
  isplitl [HO]; · iexact HO
  isplitr [Hg Hb]
  · isplitl [Hz]; · iexact Hz
    isplitl [Hd0]; · iexact Hd0
    isplitl [Hd1]; · iexact Hd1
    isplitl [Hi0]; · iexact Hi0
    isplitl [Hi1]; · iexact Hi1
    isplitl [Ho0]; · iexact Ho0
    isplitl [Ho1]; · iexact Ho1
    isplitl [Hh0]; · iexact Hh0
    isplitl [Hh1]; · iexact Hh1
    isplitl [Hx0 Hx1 Hx2 Hx3]
    · isplitl [Hx0]; · iexact Hx0
      isplitl [Hx1]; · iexact Hx1
      isplitl [Hx2] <;> iassumption
    isplitl [Hk0 Hk1 Hk2 Hk3]
    · isplitl [Hk0]; · iexact Hk0
      isplitl [Hk1]; · iexact Hk1
      isplitl [Hk2] <;> iassumption
    isplitl [Hy0]; · iexact Hy0
    isplitl [Hy1]; · iexact Hy1
    isplitl [Hy2] <;> iassumption
  · isplitl [Hg] <;> iassumption

end Cert.KernelIdeal.Norm

end
-- ==== Proof.Start.lean ====
/-
  From what the launch gives a device to what its body starts with, and from what the body ends with to what
  the launch takes back.
-/
module

public import proofs.«01_k».proof.Proof.Credits
public import proofs.«01_k».proof.Proof.Body

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

variable (ρ : Dev nD → PrngReg)

/-! ## From what the launch gives to what the body starts with -/

/-- Both halves of the slot the device `e + 1` places before `c` writes on `c`. -/
def slotOf (c : Dev nD) (e : Fin 15) : sProp 𝕄 :=
  iprop((∃ f, statPts (F := F) c e.succ 0 fullShare f) ∗ (∃ f, statPts (F := F) c e.succ 1 fullShare f))

theorem stat_split (c : Dev nD) (f : Buf (Elt F) ((c : Thread nD τ).loc cc0_scratch3)) :
    (((c : Thread nD τ).loc cc0_scratch3) ↦{fullShare} f : sProp 𝕄)
      ⊢ iprop((∃ g, statPts (F := F) c 0 0 fullShare g) ∗ (∃ g, statPts (F := F) c 0 1 fullShare g) ∗ bigSep Finset.univ fun e => slotOf (F := F) c e) := by
  have h (h : Fin 2) : (bigSep Finset.univ fun e : Fin 15 => statPts c e.succ h fullShare f)
      ⊢ bigSep Finset.univ fun e : Fin 15 => (iprop(∃ g, statPts (F := F) c e.succ h fullShare g) : sProp 𝕄) :=
    bigSep_mono fun e _ => show (statPts (F := F) c e.succ h fullShare f : sProp 𝕄) ⊢ iprop(∃ g, statPts (F := F) c e.succ h fullShare g) from by
      iintro H; iexists f; iexact H
  have hs : (bigSep Finset.univ fun e => slotOf (F := F) c e)
      = iprop((bigSep Finset.univ fun e : Fin 15 => iprop(∃ g, statPts (F := F) c e.succ 0 fullShare g)) ∗ bigSep Finset.univ fun e : Fin 15 => iprop(∃ g, statPts (F := F) c e.succ 1 fullShare g)) :=
    bigSep_sep' _ _ _
  rw [stat_halves, half_pieces, half_pieces, hs]
  iintro ⟨⟨H0, H0'⟩, ⟨H1, H1'⟩⟩
  isplitl [H0]; · iexists f; iexact H0
  isplitl [H1]; · iexists f; iexact H1
  isplitl [H0']
  · iapply (h 0); iexact H0'
  · iapply (h 1); iexact H1'

/-- The tokens of the signals and the slots they hand over make up the signals. -/
theorem signals_start (c : Dev nD) : iprop(barToks (F := F) c ∗ bigSep Finset.univ fun e => slotOf (F := F) c e) ⊢ Signals (F := F) c 0 := by
  have h : (bigSep Finset.univ fun e => slotOf (F := F) c e) = bigSep Finset.univ fun e : Fin 15 => barPay (F := F) (peer c e) e.rev := by
    rw [bigSep_univ_equiv Fin.revPerm fun e => slotOf (F := F) c e]
    refine bigSep_congr fun e _ => ?_
    unfold barPay slotOf
    rw [peer_peer_rev]
    rfl
  unfold Signals barToks
  rw [h, since_zero, bigSep_sep']

/-- What device `c` has when its body starts, beside its buffers of the kernel's own. -/
def start (c : Dev nD) : sProp 𝕄 :=
  iprop(G' m c ∗ (cred (tallyAt (cell c none) () 15) ∗ CameCreds (F := F) c 0 ∗ CameCreds (F := F) c 1) ∗ levels (F := F)
    ∗ (((c : Thread nD τ).loc main_arg0) ↦{fullShare} (xOf m c)) ∗ ∃ f : Buf (Elt F) ((c : Thread nD τ).loc main_v1), ((c : Thread nD τ).loc main_v1) ↦{fullShare} f)

theorem keep_any (c : Dev nD) (f : Buf (Elt F) ((c : Thread nD τ).loc cc0_scratch1)) : (((c : Thread nD τ).loc cc0_scratch1) ↦{fullShare} f : sProp 𝕄) ⊢ keepAny (F := F) c := by
  rw [keep_rows]; unfold keepAny
  iintro ⟨H0, H1, H2, H3⟩
  isplitl [H0]; · iexists f; iexact H0
  isplitl [H1]; · iexists f; iexact H1
  isplitl [H2]; · iexists f; iexact H2
  iexists f; iexact H3
theorem y_any (c : Dev nD) (f : Buf (Elt F) ((c : Thread nD τ).loc main_v1)) : (((c : Thread nD τ).loc main_v1) ↦{fullShare} f : sProp 𝕄) ⊢ yAny (F := F) c := by
  rw [y_rows]; unfold yAny
  iintro ⟨H0, H1, H2, H3⟩
  isplitl [H0]; · iexists f; iexact H0
  isplitl [H1]; · iexists f; iexact H1
  isplitl [H2]; · iexists f; iexact H2
  iexists f; iexact H3

theorem start_split (c : Dev nD) : iprop(start m c ∗ Pipeline.scopedRest cfg0.spec c)
    ⊢ iprop(∃ K, env m K ∗ Shared (F := F) c ∗ Held m c) := by
  rw [scopedRest0_eq]
  unfold start G' linear payToks SlotsZero
  rw [bigSep_key, bigSep_xfer]
  iintro ⟨⟨⟨%K, #Hr, ⟨Ha, ⟨Hs0, Hs1⟩, Hr0, Hr1⟩, ⟨Hb, Hu0, Hu1⟩, ⟨Hi0, Hi1⟩, Ho0, Ho1⟩, ⟨Hc, Hc0, Hc1⟩, #Hl, Hx, ⟨%fy, Hy⟩⟩, ⟨%f0, H0⟩, ⟨%f1, H1⟩, ⟨%f2, H2⟩, ⟨%f3, H3⟩⟩
  ihave H3 := (stat_split (F := F) c f3) $$ H3
  icases H3 with ⟨Hp0, Hp1, Hsl⟩
  ihave Hsig := (signals_start (F := F) c) $$ [Hb Hsl]
  · isplitl [Hb] <;> iassumption
  ihave H0 := (Entails.of_eq (in_slots (F := F) c f0)) $$ H0
  icases H0 with ⟨Hn0, Hn1⟩
  ihave H2 := (Entails.of_eq (out_slots (F := F) c f2)) $$ H2
  icases H2 with ⟨Ht0, Ht1⟩
  iexists K
  isplitr
  · unfold env; isplitl; · iexact Hr
    iexact Hl
  isplitl [Hsig Hc Ha Hu0 Hu1 Hc0 Hc1 Hs0 Hs1 Hr0 Hr1]
  · unfold Shared Turns
    isplitl [Hsig]; · iexact Hsig
    isplitl [Hc]; · iexact Hc
    isplitl [Ha]; · iexact Ha
    isplitl [Hu0]; · iexact Hu0
    isplitl [Hu1]; · iexact Hu1
    isplitl [Hc0]; · iexact Hc0
    isplitl [Hc1]; · iexact Hc1
    isplitl [Hs0]; · iexact Hs0
    isplitl [Hr0]; · iexact Hr0
    isplitl [Hs1]; · iexact Hs1
    iexact Hr1
  · unfold Held InIdle OutIdle
    isplitl [Hn0 Hi0]
    · isplitl [Hn0]; · iexists f0; iexact Hn0
      iexact Hi0
    isplitl [Hn1 Hi1]
    · isplitl [Hn1]; · iexists f0; iexact Hn1
      iexact Hi1
    isplitl [Ht0 Ho0]
    · isplitl [Ht0]; · iexists f2; iexact Ht0
      iexact Ho0
    isplitl [Ht1 Ho1]
    · isplitl [Ht1]; · iexists f2; iexact Ht1
      iexact Ho1
    isplitl [Hp0]; · iexact Hp0
    isplitl [Hp1]; · iexact Hp1
    isplitl [Hx]
    · unfold xAll xPts
      iapply (Entails.of_eq (x_rows (F := F) c (xOf m c))); iexact Hx
    isplitl [H1]
    · iapply (keep_any (F := F) c f1); iexact H1
    · iapply (y_any (F := F) c fy); iexact Hy

/-! ## From what the body ends with to what the launch takes back -/

/-- What is read of a device after the run. -/
def left (c : Dev nD) : sProp 𝕄 :=
  iprop(unscopedSems0 c ∗ (((c : Thread nD τ).loc main_arg0) ↦{fullShare} (xOf m c)) ∗ (((c : Thread nD τ).loc main_v1) ↦{fullShare} (outF m c)))

theorem ended_exit (c : Dev nD) : Ended m c ⊢ iprop(left m c ∗ Pipeline.ownSems0 osem c ∗ Pipeline.scopedRest cfg0.spec c) := by
  rw [scopedRest0_eq, ownSems0_eq, bigSep_xfer]
  unfold Ended left Drained InIdle OutIdle SlotsZero
  rw [unscopedSems0_eq]
  iintro ⟨Hz, ⟨Hs0, Hr0⟩, ⟨Hs1, Hr1⟩, ⟨Hn0, Hi0⟩, ⟨Hn1, Hi1⟩, ⟨Ht0, Ho0⟩, ⟨Ht1, Ho1⟩, Hp0, Hp1, Hx, Hk, Hy⟩
  isplitl [Hz Hx Hy]
  · isplitl [Hz]; · iexact Hz
    isplitl [Hx]
    · unfold xAll xPts
      iapply (Entails.of_eq (x_rows (F := F) c (xOf m c)).symm); iexact Hx
    · unfold yAll
      iapply (Entails.of_eq (y_rows (F := F) c (outF m c)).symm); iexact Hy
  isplitl [Hs0 Hr0 Hs1 Hr1 Hi0 Hi1 Ho0 Ho1]
  · isplitl [Hs0 Hr0 Hs1 Hr1]
    · isplitl [Hs0 Hs1]
      · isplitl [Hs0] <;> iassumption
      · isplitl [Hr0] <;> iassumption
    · isplitl [Hi0 Hi1]
      · isplitl [Hi0] <;> iassumption
      · isplitl [Ho0] <;> iassumption
  isplitl [Hn0 Hn1]
  · iapply (in_join (F := F) c)
    isplitl [Hn0] <;> iassumption
  isplitl [Hk]
  · iexists (keepF m c)
    unfold keepAll
    iapply (Entails.of_eq (keep_rows (F := F) c (keepF m c)).symm); iexact Hk
  isplitl [Ht0 Ht1]
  · iapply (out_join (F := F) c)
    isplitl [Ht0] <;> iassumption
  · iexists (statF m c)
    unfold halfPts
    iapply (Entails.of_eq (stat_halves (F := F) c (statF m c)).symm)
    isplitl [Hp0] <;> iassumption

end Cert.KernelIdeal.Norm

end
-- ==== Proof.Run.lean ====
/-
  The run of the whole program: the pipeline's data, the body's obligation, and the launch.
-/
module

public import proofs.«01_k».proof.Proof.Start
public import Idealize.ShloMosaic.Lib.Pipeline.CollectiveSegs

@[expose] public section

noncomputable section

namespace Cert.KernelIdeal.Norm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

variable (ρ : Dev nD → PrngReg)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The two vectors are staged and unchanged; before the one point the device has what it starts with and its own
    buffers, after it what it ends with. -/
def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => gammaOf m c
    | ⟨1, _⟩ => betaOf m c
  Φ t := match t with
    | ⟨0, _⟩ => iprop(start m c ∗ Pipeline.scopedRest cfg0.spec c)
    | ⟨_ + 1, _⟩ => Ended m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl
theorem fetch_1 (t : Fin cfg0.N) : (cfg0.win (1 : Fin 2)).fetch t = true := by rw [fin_N t]; rfl

theorem before_0 (c : Dev nD) (d) : (dats m ρ 0 c).before (0 : Fin 2) t₀ d = gammaOf m c := by
  unfold Pipeline.Dat.before; rw [if_pos (fetch_0 t₀)]; rfl
theorem before_1 (c : Dev nD) (d) : (dats m ρ 0 c).before (1 : Fin 2) t₀ d = betaOf m c := by
  unfold Pipeline.Dat.before; rw [if_pos (fetch_1 t₀)]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m c ∗ Pipeline.scopedRest cfg0.spec c) ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Ended m c ∗ (dats m ρ 0 c).owesAt () t₀.succ ∗ stg c cc0_stg0_0 (gammaOf m c) ∗ stg c cc0_stg1_0 (betaOf m c))

theorem body_run (c : Dev nD) : bodyPre m ρ c
    ⊢ Runs c (cc0_body xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7) (fun _ => bodyPost m ρ c) := by
  unfold bodyPre
  iintro ⟨Hst, Ho, ⟨%d₀, ⟨%g, %hg, Hg⟩⟩, ⟨%d₁, ⟨%b, %hb, Hb⟩⟩⟩
  rw [before_0] at hg; rw [before_1] at hb
  subst hg; subst hb
  ihave Hst := (start_split (F := F) m c) $$ Hst
  icases Hst with ⟨%K, #He, Hsh, Hh⟩
  unfold Pipeline.Dat.owesAt Pipeline.owesWithin
  icases Ho with ⟨%W, %hW, HO⟩
  iapply (body_runs (F := F) m K c) $$ [HO Hsh Hh Hg Hb]
  · isplitr; · iexact He
    isplitl [HO]; · unfold Owing; iexists W; iexact HO
    isplitl [Hsh]; · iexact Hsh
    isplitl [Hh]; · iexact Hh
    isplitl [Hg]
    · unfold gPts; iexact Hg
    · unfold bPts; iexact Hb
  iintro ⟨HO, HE, Hg, Hb⟩
  unfold bodyPost Pipeline.Dat.owesAt Pipeline.owesWithin gPts bPts Owing
  isplitl [HE]; · iexact HE
  icases HO with ⟨%W', HO⟩
  isplitl [HO]
  · iexists W'
    isplitr; · ipureintro; exact fun _ _ => Or.inl trivial
    iexact HO
  isplitl [Hg]
  · iexists (gammaOf m c); isplitr; · ipureintro; rfl
    iexact Hg
  · iexists (betaOf m c); isplitr; · ipureintro; rfl
    iexact Hb

set_option maxRecDepth 100000 in
theorem body_obligation (c : Dev nD) : Pipeline.BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ
    (cc0_body xM (Memref.isWhole_whole _) gM (Memref.isWhole_whole _) bM (Memref.isWhole_whole _) yM (Memref.isWhole_whole _) inM (Memref.isWhole_whole _) keepM (Memref.isWhole_whole _) outM (Memref.isWhole_whole _) stM (Memref.isWhole_whole _) cc0_scratch4 cc0_scratch5 cc0_scratch6 cc0_scratch7) (fun _ => bodyPost m ρ c)
  exact body_run m ρ c

/-! ## The launch -/

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq, ← levels_eq]
  iintro ⟨⟨Hx, Hy⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hx]; · iexact Hx
    iexists _; iexact Hy
  · iempintro

theorem phi_start (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  show _ ⊢ iprop(start m c ∗ Pipeline.scopedRest cfg0.spec c)
  iintro ⟨Hs, -, Hr⟩
  isplitl [Hs] <;> iassumption

theorem phi_end (c : Dev nD) :
    (dats m ρ 0 c).Φ (Fin.last cfg0.N) ⊢ iprop(left m c ∗ Pipeline.ownSems0 osem c ∗ Pipeline.scopedRest cfg0.spec c) :=
  ended_exit m c

theorem waits (c : Dev nD) : (levAts L lv : sProp 𝕄) ⊢ Pipeline.cellsWaits cfgs (dats m ρ) () 0 c :=
  Pipeline.cellsWaits_intro cfgs (dats m ρ) () 0 c fun w s t => by
    rw [← levels_eq]
    refine mayWait c _ _ ?_
    have hs : keyOf (SemLoc.dma ((cfg0.win w).sem s)) = none := by fin_cases w <;> fin_cases s <;> decide
    show Above (lvOf (keyOf (SemLoc.dma ((cfg0.win w).sem s)))) _
    rw [hs]
    rcases t with ⟨_ | _, ht⟩
    · exact above_start c
    · exact Above.zero _

/-- What is read of device `c` after the run. -/
def Read (c : Dev nD) (s : MemSt nD τ sig (Elt F)) : Prop :=
  s.mem ((c : Thread nD τ).loc main_arg0) = xOf m c ∧ s.mem ((c : Thread nD τ).loc main_v1) = outF m c
    ∧ ∀ sm : SemLoc sig, sm.isScoped .tc = false → s.sem ((c.tc : Thread nD τ), sm) = 0

theorem left_read (c : Dev nD) (s' : _) : iprop(left m c ∗ emp ∗ SI s') ⊢ |={Set.univ}=> iprop(⌜Read m c s'.mem⌝ ∗ SI s') := by
  unfold left Read
  iintro ⟨⟨Hu, Hx, Hy⟩, -, HSI⟩
  icombine HSI Hx gives %hx
  icombine HSI Hy gives %hy
  imod (Pipeline.unscopedSems0_read (X := unscopedSems0 c) (c := c) fupd_intro s') $$ [Hu HSI] with ⟨%hu, HSI⟩
  · isplitl [Hu] <;> iassumption
  imodintro
  isplitr
  · ipureintro
    exact ⟨Buf.eq_of_forall_mem_univ hx, Buf.eq_of_forall_mem_univ hy, hu⟩
  · iexact HSI

/-- What holds after the run: on every device the result, and the three arguments as they were. -/
def Final (s : MemSt nD τ sig (Elt F)) : Prop := ∀ c : Dev nD,
  s.mem ((c : Thread nD τ).loc main_v1) = outF m c ∧ s.mem ((c : Thread nD τ).loc main_arg0) = m ((c : Thread nD τ).loc main_arg0)
    ∧ s.mem ((c : Thread nD τ).loc main_arg1) = m ((c : Thread nD τ).loc main_arg1) ∧ s.mem ((c : Thread nD τ).loc main_arg2) = m ((c : Thread nD τ).loc main_arg2)

theorem arr_0 (c : Dev nD) : (dats m ρ 0 c).arrAt (0 : Fin 2) cfg0.N = m ((c : Thread nD τ).loc main_arg1) := (dats (F := F) m ρ 0 c).arrAt_in (0 : Fin 2) rfl _
theorem arr_1 (c : Dev nD) : (dats m ρ 0 c).arrAt (1 : Fin 2) cfg0.N = m ((c : Thread nD τ).loc main_arg2) := (dats (F := F) m ρ 0 c).arrAt_in (1 : Fin 2) rfl _

set_option maxRecDepth 100000 in
/-- For any float values, from any memory with every semaphore at zero: the program on the sixteen devices terminates,
    and then every device's result is `outF`, its arguments are as they were, and every semaphore is at zero. -/
theorem run_main : θ_run defs (onTc (τ := τ) (main (F := F))) (s₀ m ρ) (fun r => Final m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (show BI.own (embR (initOf ringCells ringToks, (1 : Counters)) : 𝕄) ⊢ BI.own (ER (initOf ringCells ringToks) : 𝕄) from Entails.of_eq rfl) $$ HX
      imod (fund_ring m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi_start m ρ) (hout := phi_end m ρ)
    (QY := Read m)
    (hY := left_read m)
    (hQ := fun s h hs => ⟨fun c => ⟨(h c).2.2.2.1, (h c).2.2.1, ((h c).1 (0 : Fin 2)).trans (arr_0 m ρ c), ((h c).1 (1 : Fin 2)).trans (arr_1 m ρ c)⟩,
      sem_eq_zero hs fun c => (h c).2.2.2.2⟩)

end Cert.KernelIdeal.Norm

end
-- ==== Proof.Sums.lean ====
/-
  What the kernel's arithmetic computes over the extended reals, read entry by entry: the statistics of a block, the
  totals over the sixteen slots, and a normalised block.
-/
module

public import proofs.«01_k».proof.Proof.Contents
public import Idealize.ShloMosaic.Lib.Pointwise
public import Idealize.ShloMosaic.Lib.ValueLayout

@[expose] public section

noncomputable section

namespace Cert.KernelIdeal.Norm

open Cert.KernelIdeal Cert.KernelIdeal.Gen

open Idealize.ShloMosaic

/-- A block's row sums, and its row sums of squares. -/
theorem sums_zero (v : Vec Ideal S1x1024x1024 .f32) (n : Fin 1024) :
    k0_pay2 (F := Ideal) v (ix3 (0 : Fin 1) (0 : Fin 2) n) = ∑ j : Fin 1024, v (ix3 (0 : Fin 1) n j) := by
  pointwise [k0_pay2, k0_pay1]

theorem sums_one (v : Vec Ideal S1x1024x1024 .f32) (n : Fin 1024) :
    k0_pay2 (F := Ideal) v (ix3 (0 : Fin 1) (1 : Fin 2) n) = ∑ j : Fin 1024, v (ix3 (0 : Fin 1) n j) * v (ix3 (0 : Fin 1) n j) := by
  pointwise [k0_pay2, k0_pay1]

/-- The totals over the sixteen slots. -/
theorem total_apply (v : Vec Ideal S16x2x2048 .f32) (n : Fin 2048) (k : Fin 2) :
    k0_pay16 (F := Ideal) v (ix2 n k) = ∑ d : Fin 16, v (ix3 d k n) := by
  pointwise [k0_pay16]

/-- The mean of a row, and the reciprocal root of its variance. -/
def meanAt (v : Vec Ideal S16x2x2048 .f32) (n : Fin 2048) : EReal :=
  Ideal.div (∑ d : Fin 16, v (ix3 d (0 : Fin 2) n)) (Ideal.ofBits .f32 0x46800000#32)
def invAt (v : Vec Ideal S16x2x2048 .f32) (n : Fin 2048) : EReal :=
  Ideal.rsqrt (Ideal.div (∑ d : Fin 16, v (ix3 d (1 : Fin 2) n)) (Ideal.ofBits .f32 0x46800000#32)
    - meanAt v n * meanAt v n + Ideal.ofBits .f32 0x3727C5AC#32)

theorem mean_apply (v : Vec Ideal S16x2x2048 .f32) (n : Fin 2048) : k0_pay17 (F := Ideal) v (ix2 n (0 : Fin 1)) = meanAt v n := by
  pointwise [k0_pay17, total_apply, meanAt]

theorem inv_apply (v : Vec Ideal S16x2x2048 .f32) (n : Fin 2048) : k0_pay18 (F := Ideal) v (ix2 n (0 : Fin 1)) = invAt v n := by
  pointwise [k0_pay18, mean_apply, total_apply, invAt]

/-- A row of the first or of the second block of a half, as a row of the half. -/
def rowLo (n : Fin 1024) : Fin 2048 := ⟨n.val, by have := n.isLt; omega⟩
def rowHi (n : Fin 1024) : Fin 2048 := ⟨1024 + n.val, by have := n.isLt; omega⟩

/-- An entry scaled and shifted, from the block's entry, the row's mean and the row's reciprocal root. -/
def normAt (g s : Vec Ideal S1x1024 .f32) (j : Fin 1024) (a mean inv : EReal) : EReal :=
  g (ix2 (0 : Fin 1) j) * ((a - mean) * inv) + s (ix2 (0 : Fin 1) j)

/-- The four stored blocks at an entry. The second half's mean and root are computed by the same arithmetic. -/
theorem block0_apply (g s : Vec Ideal S1x1024 .f32) (x : Vec Ideal S1x1024x1024 .f32) (v : Vec Ideal S16x2x2048 .f32)
    (n j : Fin 1024) :
    k0_pay22 (F := Ideal) (k0_pay14 g) (k0_pay15 s) (k0_pay19 (k0_pay3 x)) (k0_pay20 v) (k0_pay21 v) (ix3 (0 : Fin 1) n j)
      = normAt g s j (x (ix3 (0 : Fin 1) n j)) (meanAt v (rowLo n)) (invAt v (rowLo n)) := by
  pointwise [k0_pay22, k0_pay14, k0_pay15, k0_pay19, k0_pay3, k0_pay1, k0_pay20, k0_pay21, mean_apply, inv_apply, normAt, rowLo]

theorem block1_apply (g s : Vec Ideal S1x1024 .f32) (x : Vec Ideal S1x1024x1024 .f32) (v : Vec Ideal S16x2x2048 .f32)
    (n j : Fin 1024) :
    k0_pay23 (F := Ideal) (k0_pay14 g) (k0_pay15 s) (k0_pay17 v) (k0_pay18 v) (k0_pay3 x) (ix3 (0 : Fin 1) n j)
      = normAt g s j (x (ix3 (0 : Fin 1) n j)) (meanAt v (rowHi n)) (invAt v (rowHi n)) := by
  pointwise [k0_pay23, k0_pay14, k0_pay15, k0_pay3, k0_pay1, mean_apply, inv_apply, normAt, rowHi]

theorem mean_apply' (v : Vec Ideal S16x2x2048 .f32) (n : Fin 2048) : k0_pay25 (F := Ideal) v (ix2 n (0 : Fin 1)) = meanAt v n :=
  mean_apply v n

theorem inv_apply' (v : Vec Ideal S16x2x2048 .f32) (n : Fin 2048) :
    k0_pay27 (F := Ideal) (k0_pay25 v) (k0_pay26 v) (Ideal.ofBits .f32 0x46800000#32) (ix2 n (0 : Fin 1)) = invAt v n :=
  inv_apply v n

theorem block2_apply (g s : Vec Ideal S1x1024 .f32) (x : Vec Ideal S1x1024x1024 .f32) (v : Vec Ideal S16x2x2048 .f32)
    (n j : Fin 1024) :
    k0_pay28 (F := Ideal) (k0_pay14 g) (k0_pay15 s) (k0_pay25 v) (k0_pay26 v) widthV (k0_pay3 x) (ix3 (0 : Fin 1) n j)
      = normAt g s j (x (ix3 (0 : Fin 1) n j)) (meanAt v (rowLo n)) (invAt v (rowLo n)) := by
  pointwise [k0_pay28, k0_pay14, k0_pay15, k0_pay3, k0_pay1, mean_apply', inv_apply', normAt, rowLo]

theorem block3_apply (g s : Vec Ideal S1x1024 .f32) (x : Vec Ideal S1x1024x1024 .f32) (v : Vec Ideal S16x2x2048 .f32)
    (n j : Fin 1024) :
    k0_pay29 (F := Ideal) (k0_pay14 g) (k0_pay15 s) (k0_pay25 v) (k0_pay27 (k0_pay25 v) (k0_pay26 v) widthV) (k0_pay3 x)
        (ix3 (0 : Fin 1) n j)
      = normAt g s j (x (ix3 (0 : Fin 1) n j)) (meanAt v (rowHi n)) (invAt v (rowHi n)) := by
  pointwise [k0_pay29, k0_pay14, k0_pay15, k0_pay3, k0_pay1, mean_apply', inv_apply', normAt, rowHi]

end Cert.KernelIdeal.Norm

end
-- ==== Proof.Entries.lean ====
/-
  The kernel's result, entry by entry: every entry is normalised by the mean and the mean of squares of its whole
  row, over all sixteen devices' columns.
-/
module

public import proofs.«01_k».proof.Proof.Sums

@[expose] public section

noncomputable section

namespace Cert.KernelIdeal.Norm

open Cert.KernelIdeal Cert.KernelIdeal.Gen

open Idealize.ShloMosaic
open Idealize.ShloMosaic.TcCoe

variable (m : (ℓ : Loc nD τ sig) → Buf (Elt Ideal) ℓ)

/-- An entry of a device's scale, and of its shift. The two vectors are staged whole. -/
def scaleAt (c : Dev nD) (j : Fin 1024) : EReal := m ((c : Thread nD τ).loc main_arg1) (ix2 (0 : Fin 1) j)
def shiftAt (c : Dev nD) (j : Fin 1024) : EReal := m ((c : Thread nD τ).loc main_arg2) (ix2 (0 : Fin 1) j)

theorem gammaOf_apply (c : Dev nD) (j : Fin 1024) :
    gammaOf (F := Ideal) m c (ix2 (0 : Fin 1) j) = scaleAt m c j := by
  unfold gammaOf scaleAt
  refine congrArg (m ((c : Thread nD τ).loc main_arg1)) (funext fun a => ?_)
  fin_cases a
  · rfl
  · exact Fin.ext (by show 0 * 1024 + 1 * j.val = j.val; omega)

theorem betaOf_apply (c : Dev nD) (j : Fin 1024) :
    betaOf (F := Ideal) m c (ix2 (0 : Fin 1) j) = shiftAt m c j := by
  unfold betaOf shiftAt
  refine congrArg (m ((c : Thread nD τ).loc main_arg2)) (funext fun a => ?_)
  fin_cases a
  · rfl
  · exact Fin.ext (by show 0 * 1024 + 1 * j.val = j.val; omega)

/-- The half a block's rows belong to, and a block's row as a row of that half. -/
def halfOf (b : Fin 4) : Fin 2 := ⟨b.val / 2, by have := b.isLt; omega⟩
def rowIn (b : Fin 4) (n : Fin 1024) : Fin 2048 := ⟨1024 * (b.val % 2) + n.val, by have := n.isLt; omega⟩

/-- A statistic a device reads: slot `d` holds the one of the device `d` places before. -/
theorem halfV_apply (c : Dev nD) (b : Fin 4) (n : Fin 1024) (d : Fin 16) (k : Fin 2) :
    halfV (F := Ideal) m c (halfOf b) (ix3 d k (rowIn b n)) = sumsV m (sender c d) b (ix3 (0 : Fin 1) k n) := by
  have hidx : ((halfR (halfOf b)).toLoadRect.idx (ix3 d k (rowIn b n)) : S16x2x4096.Idx)
      = ix3 d k (⟨1024 * b.val + n.val, by have := b.isLt; have := n.isLt; omega⟩ : Fin 4096) := by
    funext a
    fin_cases a
    · exact Fin.ext (by show 0 + 1 * d.val = d.val; omega)
    · exact Fin.ext (by show 0 + 1 * k.val = k.val; omega)
    · exact Fin.ext (by
        show 2048 * (b.val / 2) + 1 * (1024 * (b.val % 2) + n.val) = 1024 * b.val + n.val
        omega)
  show statF m c ((halfR (halfOf b)).toLoadRect.idx (ix3 d k (rowIn b n))) = _
  rw [hidx]
  show sumsV m (sender c d) (blkOf (1024 * b.val + n.val)) (ix3 (0 : Fin 1) k (offOf (1024 * b.val + n.val))) = _
  rw [blkOf_add b n.val n.isLt, offOf_add b n.val n.isLt]

/-- An entry of a device's columns; a row's sum and sum of squares over all the devices' columns, its mean, and the reciprocal root of its variance. -/
def entry (p : Dev nD) (r : Fin 4096) (j : Fin 1024) : EReal := xOf m p (ix2 r j)
def rowSum (r : Fin 4096) : EReal := ∑ p : Dev nD, ∑ j : Fin 1024, entry m p r j
def rowSq (r : Fin 4096) : EReal := ∑ p : Dev nD, ∑ j : Fin 1024, entry m p r j * entry m p r j
def rowMean (r : Fin 4096) : EReal := Ideal.div (rowSum m r) (Ideal.ofBits .f32 0x46800000#32)
def rowInv (r : Fin 4096) : EReal :=
  Ideal.rsqrt (Ideal.div (rowSq m r) (Ideal.ofBits .f32 0x46800000#32) - rowMean m r * rowMean m r + Ideal.ofBits .f32 0x3727C5AC#32)

/-- An entry of a block of the input. -/
theorem inV_apply (c : Dev nD) (b : Fin 4) (n j : Fin 1024) :
    inV (F := Ideal) m c b (ix3 (0 : Fin 1) n j) = entry m c (rowAt b n) j := by
  unfold inV entry
  refine congrArg (xOf m c) (funext fun a => ?_)
  fin_cases a <;> rfl

/-- The slots' totals are the totals over the devices, whichever device reads them. -/
theorem slots_sum (c : Dev nD) (b : Fin 4) (n : Fin 1024) :
    ∑ d : Fin 16, (halfV m c (halfOf b) (ix3 d (0 : Fin 2) (rowIn b n)) : EReal) = rowSum m (rowAt b n) := by
  unfold rowSum
  refine Eq.trans (Finset.sum_congr rfl fun d _ => ?_)
    (Equiv.sum_comp (senders c) fun p => ∑ j : Fin 1024, entry m p (rowAt b n) j)
  rw [halfV_apply, sumsV, sums_zero]
  exact Finset.sum_congr rfl fun j _ => inV_apply m (sender c d) b n j

theorem slots_sq (c : Dev nD) (b : Fin 4) (n : Fin 1024) :
    ∑ d : Fin 16, (halfV m c (halfOf b) (ix3 d (1 : Fin 2) (rowIn b n)) : EReal) = rowSq m (rowAt b n) := by
  unfold rowSq
  refine Eq.trans (Finset.sum_congr rfl fun d _ => ?_)
    (Equiv.sum_comp (senders c) fun p => ∑ j : Fin 1024, entry m p (rowAt b n) j * entry m p (rowAt b n) j)
  rw [halfV_apply, sumsV, sums_one]
  exact Finset.sum_congr rfl fun j _ => congrArg₂ (· * ·) (inV_apply m (sender c d) b n j) (inV_apply m (sender c d) b n j)

theorem mean_row (c : Dev nD) (b : Fin 4) (n : Fin 1024) :
    meanAt (halfV m c (halfOf b)) (rowIn b n) = rowMean m (rowAt b n) := by
  rw [meanAt, rowMean, slots_sum]

theorem inv_row (c : Dev nD) (b : Fin 4) (n : Fin 1024) :
    invAt (halfV m c (halfOf b)) (rowIn b n) = rowInv m (rowAt b n) := by
  rw [invAt, rowInv, mean_row, slots_sq]

/-- An entry of each block of the result. -/
theorem outV_zero (c : Dev nD) (n j : Fin 1024) :
    outV (F := Ideal) m c 0 (ix3 (0 : Fin 1) n j)
      = normAt (gammaOf m c) (betaOf m c) j (inV m c 0 (ix3 (0 : Fin 1) n j))
          (meanAt (halfV m c 0) (rowLo n)) (invAt (halfV m c 0) (rowLo n)) :=
  block0_apply (gammaOf m c) (betaOf m c) (inV m c 0) (halfV m c 0) n j

theorem outV_one (c : Dev nD) (n j : Fin 1024) :
    outV (F := Ideal) m c 1 (ix3 (0 : Fin 1) n j)
      = normAt (gammaOf m c) (betaOf m c) j (inV m c 1 (ix3 (0 : Fin 1) n j))
          (meanAt (halfV m c 0) (rowHi n)) (invAt (halfV m c 0) (rowHi n)) :=
  block1_apply (gammaOf m c) (betaOf m c) (inV m c 1) (halfV m c 0) n j

theorem outV_two (c : Dev nD) (n j : Fin 1024) :
    outV (F := Ideal) m c 2 (ix3 (0 : Fin 1) n j)
      = normAt (gammaOf m c) (betaOf m c) j (inV m c 2 (ix3 (0 : Fin 1) n j))
          (meanAt (halfV m c 1) (rowLo n)) (invAt (halfV m c 1) (rowLo n)) :=
  block2_apply (gammaOf m c) (betaOf m c) (inV m c 2) (halfV m c 1) n j

theorem outV_three (c : Dev nD) (n j : Fin 1024) :
    outV (F := Ideal) m c 3 (ix3 (0 : Fin 1) n j)
      = normAt (gammaOf m c) (betaOf m c) j (inV m c 3 (ix3 (0 : Fin 1) n j))
          (meanAt (halfV m c 1) (rowHi n)) (invAt (halfV m c 1) (rowHi n)) :=
  block3_apply (gammaOf m c) (betaOf m c) (inV m c 3) (halfV m c 1) n j

theorem rowIn_even (b : Fin 4) (n : Fin 1024) (h : b.val % 2 = 0) : rowLo n = rowIn b n :=
  Fin.ext (by show n.val = 1024 * (b.val % 2) + n.val; omega)
theorem rowIn_odd (b : Fin 4) (n : Fin 1024) (h : b.val % 2 = 1) : rowHi n = rowIn b n :=
  Fin.ext (by show 1024 + n.val = 1024 * (b.val % 2) + n.val; omega)

theorem outV_apply (c : Dev nD) (b : Fin 4) (n j : Fin 1024) :
    outV (F := Ideal) m c b (ix3 (0 : Fin 1) n j)
      = normAt (gammaOf m c) (betaOf m c) j (inV m c b (ix3 (0 : Fin 1) n j))
          (meanAt (halfV m c (halfOf b)) (rowIn b n)) (invAt (halfV m c (halfOf b)) (rowIn b n)) := by
  obtain rfl | rfl | rfl | rfl : b = 0 ∨ b = 1 ∨ b = 2 ∨ b = 3 := by revert b; decide
  · rw [← rowIn_even 0 n (by decide), show halfOf 0 = 0 by decide]; exact outV_zero m c n j
  · rw [← rowIn_odd 1 n (by decide), show halfOf 1 = 0 by decide]; exact outV_one m c n j
  · rw [← rowIn_even 2 n (by decide), show halfOf 2 = 1 by decide]; exact outV_two m c n j
  · rw [← rowIn_odd 3 n (by decide), show halfOf 3 = 1 by decide]; exact outV_three m c n j

/-- An entry of a device's result. -/
theorem outF_apply (c : Dev nD) (r : Fin 4096) (j : Fin 1024) :
    outF (F := Ideal) m c (ix2 r j)
      = scaleAt m c j * ((entry m c r j - rowMean m r) * rowInv m r) + shiftAt m c j := by
  obtain ⟨b, n, rfl⟩ : ∃ b n, r = rowAt b n :=
    ⟨⟨r.val / 1024, by have := r.isLt; omega⟩, ⟨r.val % 1024, Nat.mod_lt _ (by decide)⟩,
      Fin.ext (by show r.val = 1024 * (r.val / 1024) + r.val % 1024; omega)⟩
  have h : outF (F := Ideal) m c (ix2 (rowAt b n) j) = outV m c b (ix3 (0 : Fin 1) n j) := by
    show outV m c (blkOf (1024 * b.val + n.val)) (ix3 (0 : Fin 1) (offOf (1024 * b.val + n.val)) j) = _
    rw [blkOf_add b n.val n.isLt, offOf_add b n.val n.isLt]
  rw [h, outV_apply, mean_row, inv_row, inV_apply, normAt, gammaOf_apply, betaOf_apply]

end Cert.KernelIdeal.Norm

end
-- ==== Proof.RowMath.lean ====
/-
  One row, over the extended reals: normalising by the mean of squares less the square of the mean, and by the
  reciprocal of a root, is normalising by the mean of the squared differences, and by the root.
-/
module

public import Idealize.ShloMosaic.PureOps.Ideal

@[expose] public section

noncomputable section

namespace Cert.RowMath

open Idealize.ShloMosaic

/-- The two numbers that both programs spell as float words: the width, and what is added to the variance. -/
theorem width_word : Ideal.ofBits .f32 0x46800000#32 = ((16384 : ℝ) : EReal) := by
  simp [Ideal.ofBits, Ideal.ieee, -EReal.coe_mul]; norm_num

theorem eps_word : ∃ e : ℝ, 0 < e ∧ Ideal.ofBits .f32 0x3727C5AC#32 = (e : EReal) := by
  refine ⟨(2 ^ 23 + (0x27C5AC : ℕ) : ℝ) * (2 : ℝ) ^ ((110 : ℤ) - 127 - 23), by positivity, ?_⟩
  simp [Ideal.ofBits, Ideal.ieee, -EReal.coe_mul]; norm_num

/-- A sum of reals is the sum of them as extended reals. -/
theorem coe_total {ι : Type*} (s : Finset ι) (r : ι → ℝ) : ∑ i ∈ s, (r i : EReal) = ((∑ i ∈ s, r i : ℝ) : EReal) := by
  classical
  induction s using Finset.induction_on with
  | empty => simp
  | insert a s ha ih => rw [Finset.sum_insert ha, Finset.sum_insert ha, ih, EReal.coe_add]

/-- The mean of the squared differences of `N` reals from their mean is the mean of their squares less the square of
    their mean. -/
theorem variance {ι : Type*} [Fintype ι] (r : ι → ℝ) (N : ℝ) (hN : (Fintype.card ι : ℝ) = N) (h0 : 0 < N) :
    (∑ i, (r i - (∑ j, r j) * (1 / N)) * (r i - (∑ j, r j) * (1 / N))) * (1 / N)
      = (∑ i, r i * r i) * (1 / N) - (∑ j, r j) * (1 / N) * ((∑ j, r j) * (1 / N)) := by
  set M := (∑ j, r j) * (1 / N) with hM
  have hS : ∑ j, r j = M * N := by rw [hM]; field_simp
  have h : ∀ i, (r i - M) * (r i - M) = r i * r i - 2 * M * r i + M * M := fun i => by ring
  simp only [h, Finset.sum_add_distrib, Finset.sum_sub_distrib, ← Finset.mul_sum, Finset.sum_const, Finset.card_univ,
    nsmul_eq_mul, hN, hS]
  field_simp
  ring

/-- One entry `a` of a row of reals, scaled by any `g`: the kernel's way of normalising is the reference's. -/
theorem norm_eq {ι : Type*} [Fintype ι] (x : ι → EReal) (hx : ∀ i, ∃ r : ℝ, x i = r) (N e : ℝ)
    (hN : (Fintype.card ι : ℝ) = N) (h0 : 0 < N) (he : 0 < e) (a g : EReal) :
    g * ((a - Ideal.div (∑ i, x i) N)
        * Ideal.rsqrt (Ideal.div (∑ i, x i * x i) N - Ideal.div (∑ i, x i) N * Ideal.div (∑ i, x i) N + e))
      = Ideal.div (g * (a - Ideal.div (∑ i, x i) N))
          (Ideal.sqrt (Ideal.div (∑ i, (x i - Ideal.div (∑ j, x j) N) * (x i - Ideal.div (∑ j, x j) N)) N + e)) := by
  choose r hr using hx
  obtain rfl : x = fun i => (r i : EReal) := funext hr
  have hv := variance r N hN h0
  set M : ℝ := (∑ j, r j) * (1 / N) with hM
  have hpos : 0 < (∑ i, (r i - M) * (r i - M)) * (1 / N) + e :=
    add_pos_of_nonneg_of_pos (mul_nonneg (Finset.sum_nonneg fun i _ => mul_self_nonneg _) (by positivity)) he
  simp only [Ideal.div_coe h0.ne', ← EReal.coe_mul, coe_total]
  rw [← hM]
  simp only [← EReal.coe_sub, ← EReal.coe_mul, coe_total]
  rw [← EReal.coe_add, ← EReal.coe_add, ← hv]
  set V := (∑ i, (r i - M) * (r i - M)) * (1 / N) + e
  have hs : Real.sqrt V ≠ 0 := (Real.sqrt_pos.2 hpos).ne'
  rw [Ideal.rsqrt_coe, Ideal.sqrt_coe, if_neg hpos.not_gt, if_neg hpos.not_gt, if_neg hpos.ne', Ideal.div_coe hs, one_div,
    mul_assoc]

end Cert.RowMath

end
-- ==== Proof.RefEntry.lean ====
/-
  The reference's result, entry by entry, over the extended reals: every entry less its row's mean, scaled, over the
  root of the row's variance, and shifted.
-/
module

public import proofs.«01_k».proof.Proof.Gen.ReferenceIdeal.Run
public import proofs.«01_k».proof.Proof.RowMath
public import Idealize.ShloMosaic.Lib.Pointwise
public import Idealize.ShloMosaic.Lib.ValueLayout

@[expose] public section

noncomputable section

namespace Cert.ReferenceIdeal.Norm

open Cert.ReferenceIdeal Cert.ReferenceIdeal.Gen

open Idealize.ShloMosaic

/-- The mean of every row, the entries less it, the number a sum of squares is divided by, and the variance. -/
def refMean (x : FVec Ideal S4096x16384 .f32) : FVec Ideal S4096x1 .f32 :=
  Host.divf (broadcastInDim S4096x1 ![0] bcast_S4096_S4096x1_0
      (Host.reduceAdd x (constant S_ .f32 0x00000000#32) reducesTo_S4096x16384_S4096_d1 h_S_))
    (broadcastInDim S4096x1 ![] bcast_S_S4096x1 (constant S_ .f32 0x46800000#32))

def refDiff (x : FVec Ideal S4096x16384 .f32) : FVec Ideal S4096x16384 .f32 :=
  subf x (broadcastInDim S4096x16384 ![0, 1] bcast_S4096x1_S4096x16384_0_1 (refMean x))

def refWidth : FVec Ideal S_ .f32 := subf (constant S_ .f32 0x46800000#32) (sitofp .f32 (constantI S_ 32 0#32))

def refVar (x : FVec Ideal S4096x16384 .f32) : FVec Ideal S4096x1 .f32 :=
  select (broadcastInDim S4096x1 ![] bcast_S_S4096x1 (cmpf .ogt refWidth (constant S_ .f32 0x00000000#32)))
    (Host.divf (broadcastInDim S4096x1 ![0] bcast_S4096_S4096x1_0
        (Host.reduceAdd (mulf (refDiff x) (refDiff x)) (constant S_ .f32 0x00000000#32) reducesTo_S4096x16384_S4096_d1 h_S_))
      (broadcastInDim S4096x1 ![] bcast_S_S4096x1 refWidth))
    (broadcastInDim S4096x1 ![] bcast_S_S4096x1 (id (constant S_ .f32 0x7FC00000#32)))

/-- The reference's result. -/
def refOut (x : FVec Ideal S4096x16384 .f32) (g b : FVec Ideal S1x16384 .f32) : FVec Ideal S4096x16384 .bf16 :=
  truncf .bf16
    (addf
      (Host.divf (mulf (broadcastInDim S4096x16384 ![0, 1] bcast_S1x16384_S4096x16384_0_1 g) (refDiff x))
        (broadcastInDim S4096x16384 ![0, 1] bcast_S4096x1_S4096x16384_0_1
          (Host.sqrt (addf (refVar x) (broadcastInDim S4096x1 ![] bcast_S_S4096x1 (constant S_ .f32 0x3727C5AC#32))))))
      (broadcastInDim S4096x16384 ![0, 1] bcast_S1x16384_S4096x16384_0_1 b))
    bitsLt_bf16_f32

/-- A row's mean and variance as numbers. -/
def meanR (x : FVec Ideal S4096x16384 .f32) (r : Fin 4096) : EReal :=
  Ideal.div (∑ k : Fin 16384, (x (ix2 r k) : EReal)) ((16384 : ℝ) : EReal)
def varR (x : FVec Ideal S4096x16384 .f32) (r : Fin 4096) : EReal :=
  Ideal.div (∑ k : Fin 16384, ((x (ix2 r k) : EReal) - meanR x r) * ((x (ix2 r k) : EReal) - meanR x r)) ((16384 : ℝ) : EReal)

theorem refMean_apply (x : FVec Ideal S4096x16384 .f32) (r : Fin 4096) : refMean x (ix2 r (0 : Fin 1)) = meanR x r := by
  pointwise [refMean, meanR, RowMath.width_word]

theorem refDiff_apply (x : FVec Ideal S4096x16384 .f32) (r : Fin 4096) (k : Fin 16384) :
    refDiff x (ix2 r k) = (x (ix2 r k) : EReal) - meanR x r := by
  pointwise [refDiff, refMean_apply]

/-- The integer zero is the number zero, and the width is above it. -/
theorem zero_word : FloatOps.sitofp (F := Ideal) .f32 (0#32 : BitVec 32) = (0 : EReal) := by
  show (((0#32 : BitVec 32).toInt : ℝ) : EReal) = 0
  simp

theorem width_pos : (0 : EReal) < ((16384 : ℝ) : EReal) := by exact_mod_cast (by norm_num : (0 : ℝ) < 16384)

theorem refWidth_apply (i : S_.Idx) : refWidth i = ((16384 : ℝ) : EReal) := by
  pointwise [refWidth, RowMath.width_word, zero_word, sub_zero]

theorem refVar_apply (x : FVec Ideal S4096x16384 .f32) (r : Fin 4096) : refVar x (ix2 r (0 : Fin 1)) = varR x r := by
  pointwise [refVar, refWidth_apply, refDiff_apply, varR, width_pos, if_true]

theorem refOut_apply (x : FVec Ideal S4096x16384 .f32) (g b : FVec Ideal S1x16384 .f32) (r : Fin 4096) (k : Fin 16384) :
    refOut x g b (ix2 r k)
      = Ideal.div ((g (ix2 (0 : Fin 1) k) : EReal) * ((x (ix2 r k) : EReal) - meanR x r))
          (Ideal.sqrt (varR x r + Ideal.ofBits .f32 0x3727C5AC#32)) + (b (ix2 (0 : Fin 1) k) : EReal) := by
  pointwise [refOut, refVar_apply, refDiff_apply]

end Cert.ReferenceIdeal.Norm

end
-- ==== Proof.Agree.lean ====
/-
  Device `c`'s result is block `c` of the reference's, whenever the devices hold the blocks of the reference's
  arguments and every entry of the input is a real number.
-/
module

public import proofs.«01_k».proof.Proof.Entries
public import proofs.«01_k».proof.Proof.RefEntry
public import Idealize.ShloMosaic.Lib.Layout

@[expose] public section

noncomputable section

namespace Cert.KernelIdeal.Norm

open Cert.KernelIdeal Cert.KernelIdeal.Gen

open Idealize.ShloMosaic
open Idealize.ShloMosaic.TcCoe

/-- The whole is sixteen blocks of columns. -/
theorem tiles_x : Layout.Tiles ⟨2, ![4096, 1024]⟩ ⟨2, ![4096, 16384]⟩ 1 16 := by decide
theorem tiles_v : Layout.Tiles ⟨2, ![1, 1024]⟩ ⟨2, ![1, 16384]⟩ 1 16 := by decide

variable (m : (ℓ : Loc nD τ sig) → Buf (Elt Ideal) ℓ)
variable (X : FVec Ideal ⟨2, ![4096, 16384]⟩ .f32) (G B : FVec Ideal ⟨2, ![1, 16384]⟩ .f32)

/-- Column `j` of device `p`, as a column of the whole. -/
def col (p : Dev nD) (j : Fin 1024) : Fin 16384 :=
  ⟨p.val * 1024 + j.val, by have : p.val < 16 := p.isLt; have := j.isLt; omega⟩

variable (hX : ∀ c : Dev nD, m ((c : Thread nD τ).loc main_arg0) = Layout.block ⟨2, ![4096, 1024]⟩ ⟨2, ![4096, 16384]⟩ 1 16 c X tiles_x)
variable (hG : ∀ c : Dev nD, m ((c : Thread nD τ).loc main_arg1) = Layout.block ⟨2, ![1, 1024]⟩ ⟨2, ![1, 16384]⟩ 1 16 c G tiles_v)
variable (hB : ∀ c : Dev nD, m ((c : Thread nD τ).loc main_arg2) = Layout.block ⟨2, ![1, 1024]⟩ ⟨2, ![1, 16384]⟩ 1 16 c B tiles_v)

include hX in
/-- A device's entry is the whole's at the device's column. -/
theorem entry_block (p : Dev nD) (r : Fin 4096) (j : Fin 1024) : entry m p r j = X (ix2 r (col p j)) := by
  unfold entry xOf
  rw [hX p]
  refine congrArg X (funext fun a => ?_)
  fin_cases a <;> exact Fin.ext rfl

include hG in
theorem scale_block (p : Dev nD) (j : Fin 1024) : scaleAt m p j = G (ix2 (0 : Fin 1) (col p j)) := by
  unfold scaleAt
  rw [hG p]
  refine congrArg G (funext fun a => ?_)
  fin_cases a <;> exact Fin.ext rfl

include hB in
theorem shift_block (p : Dev nD) (j : Fin 1024) : shiftAt m p j = B (ix2 (0 : Fin 1) (col p j)) := by
  unfold shiftAt
  rw [hB p]
  refine congrArg B (funext fun a => ?_)
  fin_cases a <;> exact Fin.ext rfl

include hX in
/-- The devices' totals are the whole row's. -/
theorem rowSum_whole (r : Fin 4096) : rowSum m r = ∑ k : Fin 16384, (X (ix2 r k) : EReal) := by
  rw [Fin.sum_univ_tiles 16 1024 (by norm_num)]
  exact Finset.sum_congr rfl fun p _ => Finset.sum_congr rfl fun j _ => entry_block m X hX p r j

include hX in
theorem rowSq_whole (r : Fin 4096) : rowSq m r = ∑ k : Fin 16384, (X (ix2 r k) : EReal) * (X (ix2 r k) : EReal) := by
  rw [Fin.sum_univ_tiles 16 1024 (by norm_num)]
  exact Finset.sum_congr rfl fun p _ => Finset.sum_congr rfl fun j _ =>
    congrArg₂ (· * ·) (entry_block m X hX p r j) (entry_block m X hX p r j)

include hX in
/-- Every entry of the whole input is real if every device's are. -/
theorem whole_real (hfin : ∀ (c : Dev nD) (r : Fin 4096) (j : Fin 1024), ∃ t : ℝ, entry m c r j = t) (r : Fin 4096)
    (k : Fin 16384) : ∃ t : ℝ, (X (ix2 r k) : EReal) = t := by
  have h := hfin ⟨k.val / 1024, by have := k.isLt; show k.val / 1024 < 16; omega⟩ r ⟨k.val % 1024, Nat.mod_lt _ (by decide)⟩
  rw [entry_block m X hX] at h
  have hk : col ⟨k.val / 1024, by have := k.isLt; show k.val / 1024 < 16; omega⟩ ⟨k.val % 1024, Nat.mod_lt _ (by decide)⟩ = k :=
    Fin.ext (by show k.val / 1024 * 1024 + k.val % 1024 = k.val; omega)
  rwa [hk] at h

include hX hG hB in
/-- An entry of a device's result is the reference's at the device's column. -/
theorem outF_eq (hfin : ∀ (c : Dev nD) (r : Fin 4096) (j : Fin 1024), ∃ t : ℝ, entry m c r j = t) (c : Dev nD) (r : Fin 4096)
    (j : Fin 1024) : outF (F := Ideal) m c (ix2 r j) = Cert.ReferenceIdeal.Norm.refOut X G B (ix2 r (col c j)) := by
  obtain ⟨e, he, hw⟩ := RowMath.eps_word
  rw [outF_apply, Cert.ReferenceIdeal.Norm.refOut_apply, scale_block m G hG, shift_block m B hB, entry_block m X hX]
  refine congrArg (· + (B (ix2 (0 : Fin 1) (col c j)) : EReal)) ?_
  unfold rowInv rowMean Cert.ReferenceIdeal.Norm.varR Cert.ReferenceIdeal.Norm.meanR
  rw [rowSum_whole m X hX, rowSq_whole m X hX, RowMath.width_word, hw]
  exact RowMath.norm_eq (fun k : Fin 16384 => (X (ix2 r k) : EReal)) (whole_real m X hX hfin r) 16384 e (by simp) (by norm_num) he _ _

include hX hG hB in
/-- A device's result is its block of the reference's. -/
theorem outF_block (hfin : ∀ (c : Dev nD) (r : Fin 4096) (j : Fin 1024), ∃ t : ℝ, entry m c r j = t) (c : Dev nD) :
    outF (F := Ideal) m c
      = Layout.block ⟨2, ![4096, 1024]⟩ ⟨2, ![4096, 16384]⟩ 1 16 c (Cert.ReferenceIdeal.Norm.refOut X G B) tiles_x := by
  funext i
  obtain ⟨r, j, rfl⟩ : ∃ (r : Fin 4096) (j : Fin 1024), i = ix2 r j := ⟨i 0, i 1, by funext a; fin_cases a <;> rfl⟩
  rw [outF_eq m X G B hX hG hB hfin]
  refine congrArg (Cert.ReferenceIdeal.Norm.refOut X G B) (funext fun a => ?_)
  fin_cases a <;> exact Fin.ext rfl

end Cert.KernelIdeal.Norm

end
-- ==== Proof.Finite.lean ====
/-
  What the condition on a device's input says: every one of its entries is a real number.
-/
module

public import proofs.«01_k».proof.Proof.Gen.Pre_x_finite_KernelIdeal
public import Idealize.ShloMosaic.PureOps.Ideal
public import Idealize.ShloMosaic.Lib.Pointwise

@[expose] public section

noncomputable section

namespace Cert.Pre_x_finite_KernelIdeal.Norm

open Cert.Pre_x_finite_KernelIdeal Cert.Pre_x_finite_KernelIdeal.Gen

open Idealize.ShloMosaic

/-- A conjunction of bits over a set, begun at a bit, is one only if every bit of the set is. -/
theorem fold_and {ι : Type*} (s : Finset ι) (f : ι → BitVec 1) (b : BitVec 1) (h : s.fold IntOp.andi b f = 1#1) :
    ∀ i ∈ s, f i = 1#1 := by
  classical
  induction s using Finset.induction_on with
  | empty => intro i hi; cases hi
  | insert a s ha ih =>
    rw [Finset.fold_insert ha] at h
    have hand : ∀ p q : BitVec 1, IntOp.andi p q = 1#1 → p = 1#1 ∧ q = 1#1 := by decide
    obtain ⟨h1, h2⟩ := hand _ _ h
    intro i hi
    rcases Finset.mem_insert.mp hi with rfl | hi
    · exact h1
    · exact ih h2 i hi

/-- An extended real whose magnitude is below infinity is a real. -/
theorem real_of_lt (x : EReal) (h : max x (-x) < ⊤) : ∃ r : ℝ, x = r := by
  induction x using EReal.rec with
  | bot => simp at h
  | top => simp at h
  | coe r => exact ⟨r, rfl⟩

theorem finite (x : FVec Ideal S4096x1024 .f32) (g b : FVec Ideal S1x1024 .f32)
    (h : fn (F := Ideal) x g b = fun _ => 1#1) (i : S4096x1024.Idx) : ∃ r : ℝ, (x i : EReal) = r := by
  have h0 := congrFun h (Shape.Idx.first h_S_)
  unfold fn at h0
  dsimp only at h0
  rw [Host.reduce_eq_fold] at h0
  have h1 := fold_and _ _ _ h0 i (Finset.mem_filter.mpr ⟨Finset.mem_univ _, Subsingleton.elim _ _⟩)
  have htop : Ideal.ofBits .f32 0x7F800000#32 = ⊤ := by simp [Ideal.ofBits, Ideal.ieee]
  have h2 : Ideal.cmp .olt (max (x i : EReal) (-(x i : EReal))) (Ideal.ofBits .f32 0x7F800000#32) = 1#1 := h1
  rw [htop] at h2
  refine real_of_lt _ ?_
  by_contra hn
  simp [Ideal.cmp, hn] at h2

end Cert.Pre_x_finite_KernelIdeal.Norm

end
-- ==== Proof.lean ====
/-
  The five claims of the column-sharded layer normalisation, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_x_finite_KernelIdeal
public import proofs.«01_k».proof.Proof.Gen.Pre_x_finite_ReferenceIdeal
public import proofs.«01_k».proof.Proof.Run
public import proofs.«01_k».proof.Proof.Agree
public import proofs.«01_k».proof.Proof.Finite

@[expose] public section

noncomputable section

namespace Cert.Proof

open Idealize.ShloMosaic Idealize.SL.Sem Cert.Kernel

attribute [local instance] Cert.Kernel.Gen.facts Cert.KernelIdeal.Gen.facts

set_option maxRecDepth 100000 in
/-- The kernel and its idealization are one text: the same table of bodies, -/
theorem defs₀_eq : Cert.Kernel.defs₀ (F := Bits) = Cert.KernelIdeal.defs₀ (F := Bits) := by
  unfold Cert.Kernel.defs₀ Cert.KernelIdeal.defs₀
  congr 1
  funext x y
  match x, y with
  | 0, (t, s) => rfl

/-- with the call's region in it, the same. -/
theorem defs_eq : Cert.Kernel.defs (F := Bits) = Cert.KernelIdeal.defs (F := Bits) := by
  unfold Cert.Kernel.defs Cert.KernelIdeal.defs
  rw [defs₀_eq]
  rfl

/-- The kernel at bits, from any memory: it terminates without a fault, leaves its arguments as they were and
    every semaphore counter at zero. -/
theorem frame_kernel : Cert.quiescent_Kernel (hKernel := Cert.Kernel.Gen.facts) := by
  intro m ρ _
  rw [defs_eq]
  exact (θ_run Cert.KernelIdeal.defs _ _).mono
    (fun _ h => ⟨fun c => ⟨(h.1 c).2.1, (h.1 c).2.2.1, (h.1 c).2.2.2⟩, h.2⟩)
    (Cert.KernelIdeal.Norm.run_main (F := Bits) m ρ)

/-- The same at the extended reals. -/
theorem frame_ideal : Cert.quiescent_KernelIdeal (hKernelIdeal := Cert.KernelIdeal.Gen.facts) := fun m ρ _ =>
  (θ_run Cert.KernelIdeal.defs _ _).mono
    (fun _ h => ⟨fun c => ⟨(h.1 c).2.1, (h.1 c).2.2.1, (h.1 c).2.2.2⟩, h.2⟩)
    (Cert.KernelIdeal.Norm.run_main (F := Ideal) m ρ)

/-- The reference, from any memory: it terminates without a fault, leaves its arguments as they were; it has no
    semaphore at all. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- At the extended reals, from blocks of the reference's arguments whose entries are real, every device ends with its
    block of the reference's result; the arguments are as they were. -/
theorem algebraic : Cert.algebraic_KernelIdeal_ReferenceIdeal_pre_x_finite_KernelIdeal
    (hKernelIdeal := Cert.KernelIdeal.Gen.facts) (hReferenceIdeal := Cert.ReferenceIdeal.Gen.facts)
    (hPre_x_finite_KernelIdeal := Cert.Pre_x_finite_KernelIdeal.Gen.facts) := by
  intro m g m' g' hpre hblk
  refine ⟨_, (θ_run Cert.KernelIdeal.defs _ _).mono (fun r h c => ⟨(h.1 c).1.trans ?_, (h.1 c).2⟩)
      (Cert.KernelIdeal.Norm.run_main (F := Ideal) m g),
    (θ_run Cert.ReferenceIdeal.defs _ _).mono (fun r h => h 0) (Cert.ReferenceIdeal.Value.run (F := Ideal) m' g')⟩
  exact Cert.KernelIdeal.Norm.outF_block m _ _ _ (fun c => (hblk c).1) (fun c => (hblk c).2.1) (fun c => (hblk c).2.2)
    (fun c r j => Cert.Pre_x_finite_KernelIdeal.Norm.finite _ _ _ (hpre c) (ix2 r j)) c

/-- Every claim made. -/
theorem claim : Cert.Claim :=
  ⟨Cert.Kernel.Gen.facts, Cert.KernelIdeal.Gen.facts, Cert.ReferenceIdeal.Gen.facts, Cert.Pre_x_finite_KernelIdeal.Gen.facts,
   Cert.Pre_x_finite_ReferenceIdeal.Gen.facts, frame_kernel, frame_ideal, fun m ρ _ => frame_ideal m ρ trivial, frame_reference, fun m ρ _ => frame_reference m ρ trivial, trivial, algebraic⟩

end Cert.Proof

end
